-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_finite_tokens [hKernelIdeal : Cert.KernelIdeal.Facts] [hReferenceIdeal : Cert.ReferenceIdeal.Facts] [hOn_finite_tokens : Cert.On_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1536, 7168]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v7_0) i = v0 c i)
          ∧ (∀ i : (⟨3, ![6, 56, 256]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v7_1) i = v1 c i)
          ∧ (∀ i : (⟨2, ![56, 128]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v7_2) i = v2 c i)
          ∧ (∀ i : (⟨2, ![56, 128]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.KernelIdeal.nD Cert.KernelIdeal.τ).loc Cert.KernelIdeal.main_v7_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1536, 7168]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v86) i = v0 c i)
          ∧ (∀ i : (⟨3, ![6, 56, 256]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v80) i = v1 c i)
          ∧ (∀ i : (⟨2, ![56, 128]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v83) i = v2 c i)
          ∧ (∀ i : (⟨2, ![56, 128]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.ReferenceIdeal.nD Cert.ReferenceIdeal.τ).loc Cert.ReferenceIdeal.main_v85) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_finite_tokens : Cert.On_finite_tokens.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_finite_tokens (hKernelIdeal := hKernelIdeal) (hReferenceIdeal := hReferenceIdeal) (hOn_finite_tokens := hOn_finite_tokens)
-- ==== On_finite_tokens.lean ====
abbrev S6x256x7168 : Shape := ⟨3, ![6, 256, 7168]⟩
abbrev S6x256 : Shape := ⟨2, ![6, 256]⟩
abbrev S7168 : Shape := ⟨1, ![7168]⟩
abbrev S2 : Shape := ⟨1, ![2]⟩
abbrev S2x6x256 : Shape := ⟨3, ![2, 6, 256]⟩
abbrev S_ : Shape := ⟨0, ![]⟩
abbrev S1 : Shape := ⟨1, ![1]⟩
abbrev S56x128 : Shape := ⟨2, ![56, 128]⟩
abbrev S1536x1 : Shape := ⟨2, ![1536, 1]⟩
abbrev S1536x7168 : Shape := ⟨2, ![1536, 7168]⟩
abbrev S6x1x256 : Shape := ⟨3, ![6, 1, 256]⟩
abbrev S6x56x256 : Shape := ⟨3, ![6, 56, 256]⟩

class Facts : Prop where
  bitsLt_bf16_f32 : FTy.bits .bf16 < FTy.bits .f32
  reducesTo_S6x256x7168_S6x256_d2 : S6x256x7168.ReducesTo [2] S6x256
  h_S_ : 0 < S_.numel
  reducesTo_S7168_S_d0 : S7168.ReducesTo [0] S_
  bcast_S_S6x256 : S_.BroadcastsInDim S6x256 (![] : Fin 0 → Fin S6x256.rank)
  reducesTo_S2_S_d0 : S2.ReducesTo [0] S_
  reducesTo_S2x6x256_S6x256_d0 : S2x6x256.ReducesTo [0] S6x256
  slices_S2_S1_0 : S2.Slices ![0] S1
  shapeCasts_S1_S_ : S1.ShapeCasts S_
  slices_S2_S1_1 : S2.Slices ![1] S1
  bcast_S_S56x128 : S_.BroadcastsInDim S56x128 (![] : Fin 0 → Fin S56x128.rank)
  shapeCasts_S6x256_S1536x1 : S6x256.ShapeCasts S1536x1
  bcast_S1536x1_S1536x7168_0_1 : S1536x1.BroadcastsInDim S1536x7168 (![0, 1] : Fin 2 → Fin S1536x7168.rank)
  bcast_S6x256_S6x1x256_0_2 : S6x256.BroadcastsInDim S6x1x256 (![0, 2] : Fin 2 → Fin S6x1x256.rank)
  bcast_S6x1x256_S6x56x256_0_1_2 : S6x1x256.BroadcastsInDim S6x56x256 (![0, 1, 2] : Fin 3 → Fin S6x56x256.rank)

variable [Facts]

def fn_part2 {F : FTy → Type} [FloatOps F] (main_v35 : IVec S6x256 1) (main_v36 : IVec S56x128 1) (main_v37 : IVec S1536x1 1) : IVec S1536x7168 1 × IVec S6x56x256 1 × IVec S56x128 1 × IVec S56x128 1 :=
  let main_v38 : IVec S1536x7168 1 := broadcastInDim S1536x7168 ![0, 1] bcast_S1536x1_S1536x7168_0_1 main_v37
  let main_v39 : IVec S6x1x256 1 := broadcastInDim S6x1x256 ![0, 2] bcast_S6x256_S6x1x256_0_2 main_v35
  let main_v40 : IVec S6x56x256 1 := broadcastInDim S6x56x256 ![0, 1, 2] bcast_S6x1x256_S6x56x256_0_1_2 main_v39
  (main_v38, main_v40, main_v36, main_v36)

def fn_part1 {F : FTy → Type} [FloatOps F] (main_arg5 : FVec F S2 .f32) (main_arg7 : FVec F S2x6x256 .f32) (main_v18 : FVec F S6x256 .f32) (main_v19 : FVec F S2x6x256 .f32) : IVec S1536x7168 1 × IVec S6x56x256 1 × IVec S56x128 1 × IVec S56x128 1 :=
  let main_cst_3 : FVec F S_ .f32 := constant S_ .f32 0x00000000#32
  let main_v20 : FVec F S6x256 .f32 := (fun x v => Host.reduceAdd x v reducesTo_S2x6x256_S6x256_d0 h_S_) main_v19 main_cst_3
  let main_v21 : FVec F S6x256 .f32 := addf main_v18 main_v20
  let main_v22 : FVec F S2x6x256 .f32 := Host.absf main_arg7
  let main_cst_4 : FVec F S_ .f32 := constant S_ .f32 0x00000000#32
  let main_v23 : FVec F S6x256 .f32 := (fun x v => Host.reduceAdd x v reducesTo_S2x6x256_S6x256_d0 h_S_) main_v22 main_cst_4
  let main_v24 : FVec F S6x256 .f32 := addf main_v21 main_v23
  let main_v25 : FVec F S1 .f32 := (extractStridedSlice S1 ![0] · slices_S2_S1_0) main_arg5
  let main_v26 : FVec F S_ .f32 := shapeCast S_ main_v25 shapeCasts_S1_S_
  let main_cst_5 : FVec F S_ .f32 := constant S_ .f32 0x45E00000#32
  let main_v27 : FVec F S_ .f32 := addf main_v26 main_cst_5
  let main_v28 : FVec F S1 .f32 := (extractStridedSlice S1 ![1] · slices_S2_S1_1) main_arg5
  let main_v29 : FVec F S_ .f32 := shapeCast S_ main_v28 shapeCasts_S1_S_
  let main_v30 : FVec F S_ .f32 := addf main_v27 main_v29
  let main_cst_6 : FVec F S_ .f32 := constant S_ .f32 0x7F800000#32
  let main_v31 : FVec F S6x256 .f32 := broadcastInDim S6x256 ![] bcast_S_S6x256 main_cst_6
  let main_v32 : IVec S6x256 1 := cmpf .olt main_v24 main_v31
  let main_cst_7 : FVec F S_ .f32 := constant S_ .f32 0x00000000#32
  let main_v33 : IVec S_ 1 := cmpf .une main_v30 main_cst_7
  let main_v34 : IVec S6x256 1 := broadcastInDim S6x256 ![] bcast_S_S6x256 main_v33
  let main_v35 : IVec S6x256 1 := andi main_v32 main_v34
  let main_c : IVec S_ 1 := constantI S_ 1 1#1
  let main_v36 : IVec S56x128 1 := broadcastInDim S56x128 ![] bcast_S_S56x128 main_c
  let main_v37 : IVec S1536x1 1 := shapeCast S1536x1 main_v35 shapeCasts_S6x256_S1536x1
  fn_part2 (F := F) main_v35 main_v36 main_v37

def fn {F : FTy → Type} [FloatOps F] (main_arg0 : FVec F S6x256x7168 .bf16) (main_arg1 : FVec F S6x256x7168 .bf16) (main_arg2 : FVec F S6x256 .f32) (main_arg3 : FVec F S6x256 .f32) (main_arg4 : FVec F S7168 .f32) (main_arg5 : FVec F S2 .f32) (main_arg6 : FVec F S2x6x256 .f32) (main_arg7 : FVec F S2x6x256 .f32) : IVec S1536x7168 1 × IVec S6x56x256 1 × IVec S56x128 1 × IVec S56x128 1 :=
  let main_v0 : FVec F S6x256x7168 .f32 := (extf .f32 · bitsLt_bf16_f32) main_arg0
  let main_v1 : FVec F S6x256x7168 .f32 := Host.absf main_v0
  let main_cst : FVec F S_ .f32 := constant S_ .f32 0x00000000#32
  let main_v2 : FVec F S6x256 .f32 := (fun x v => Host.reduceAdd x v reducesTo_S6x256x7168_S6x256_d2 h_S_) main_v1 main_cst
  let main_v3 : FVec F S6x256x7168 .f32 := (extf .f32 · bitsLt_bf16_f32) main_arg1
  let main_v4 : FVec F S6x256x7168 .f32 := Host.absf main_v3
  let main_cst_0 : FVec F S_ .f32 := constant S_ .f32 0x00000000#32
  let main_v5 : FVec F S6x256 .f32 := (fun x v => Host.reduceAdd x v reducesTo_S6x256x7168_S6x256_d2 h_S_) main_v4 main_cst_0
  let main_v6 : FVec F S6x256 .f32 := addf main_v2 main_v5
  let main_v7 : FVec F S6x256 .f32 := Host.absf main_arg2
  let main_v8 : FVec F S6x256 .f32 := addf main_v6 main_v7
  let main_v9 : FVec F S6x256 .f32 := Host.absf main_arg3
  let main_v10 : FVec F S6x256 .f32 := addf main_v8 main_v9
  let main_v11 : FVec F S7168 .f32 := Host.absf main_arg4
  let main_cst_1 : FVec F S_ .f32 := constant S_ .f32 0x00000000#32
  let main_v12 : FVec F S_ .f32 := (fun x v => Host.reduceAdd x v reducesTo_S7168_S_d0 h_S_) main_v11 main_cst_1
  let main_v13 : FVec F S6x256 .f32 := broadcastInDim S6x256 ![] bcast_S_S6x256 main_v12
  let main_v14 : FVec F S6x256 .f32 := addf main_v10 main_v13
  let main_v15 : FVec F S2 .f32 := Host.absf main_arg5
  let main_cst_2 : FVec F S_ .f32 := constant S_ .f32 0x00000000#32
  let main_v16 : FVec F S_ .f32 := (fun x v => Host.reduceAdd x v reducesTo_S2_S_d0 h_S_) main_v15 main_cst_2
  let main_v17 : FVec F S6x256 .f32 := broadcastInDim S6x256 ![] bcast_S_S6x256 main_v16
  let main_v18 : FVec F S6x256 .f32 := addf main_v14 main_v17
  let main_v19 : FVec F S2x6x256 .f32 := Host.absf main_arg6
  fn_part1 (F := F) main_arg5 main_arg7 main_v18 main_v19
-- ==== Kernel.lean ====
abbrev S6x256x7168 : Shape := ⟨3, ![6, 256, 7168]⟩
abbrev S6x256 : Shape := ⟨2, ![6, 256]⟩
abbrev S7168 : Shape := ⟨1, ![7168]⟩
abbrev S2 : Shape := ⟨1, ![2]⟩
abbrev S2x6x256 : Shape := ⟨3, ![2, 6, 256]⟩
abbrev S1536x7168 : Shape := ⟨2, ![1536, 7168]⟩
abbrev S6x1x256 : Shape := ⟨3, ![6, 1, 256]⟩
abbrev S6x2x256 : Shape := ⟨3, ![6, 2, 256]⟩
abbrev S56x128 : Shape := ⟨2, ![56, 128]⟩
abbrev S6x56x256 : Shape := ⟨3, ![6, 56, 256]⟩
abbrev S128x7168 : Shape := ⟨2, ![128, 7168]⟩
abbrev S1x1x128 : Shape := ⟨3, ![1, 1, 128]⟩
abbrev S1x2x128 : Shape := ⟨3, ![1, 2, 128]⟩
abbrev S1x56x128 : Shape := ⟨3, ![1, 56, 128]⟩
abbrev S32x7168 : Shape := ⟨2, ![32, 7168]⟩
abbrev S128x128 : Shape := ⟨2, ![128, 128]⟩
abbrev S8x7168 : Shape := ⟨2, ![8, 7168]⟩
abbrev S1 : Shape := ⟨1, ![1]⟩
abbrev S1x128 : Shape := ⟨2, ![1, 128]⟩
abbrev S32x128 : Shape := ⟨2, ![32, 128]⟩
abbrev S8x128 : Shape := ⟨2, ![8, 128]⟩
abbrev S4x8x128 : Shape := ⟨3, ![4, 8, 128]⟩
abbrev S32 : Shape := ⟨1, ![32]⟩
abbrev S32x1 : Shape := ⟨2, ![32, 1]⟩
abbrev S128 : Shape := ⟨1, ![128]⟩

abbrev nBuf : Space → Nat
  | .hbm => 19
  | .vmem => 24
  | .smem => 1
  | _ => 0

abbrev bufTy : (tb : Table) → Fin (tcTables nBuf tb) → BufTy
  | .hbm, ⟨0, _⟩ => ⟨S6x256x7168, .bf16⟩
  | .hbm, ⟨1, _⟩ => ⟨S6x256x7168, .bf16⟩
  | .hbm, ⟨2, _⟩ => ⟨S6x256, .f32⟩
  | .hbm, ⟨3, _⟩ => ⟨S6x256, .f32⟩
  | .hbm, ⟨4, _⟩ => ⟨S7168, .f32⟩
  | .hbm, ⟨5, _⟩ => ⟨S2, .f32⟩
  | .hbm, ⟨6, _⟩ => ⟨S2x6x256, .f32⟩
  | .hbm, ⟨7, _⟩ => ⟨S2x6x256, .f32⟩
  | .hbm, ⟨8, _⟩ => ⟨S1536x7168, .bf16⟩
  | .hbm, ⟨9, _⟩ => ⟨S1536x7168, .bf16⟩
  | .hbm, ⟨10, _⟩ => ⟨S6x1x256, .f32⟩
  | .hbm, ⟨11, _⟩ => ⟨S6x1x256, .f32⟩
  | .hbm, ⟨12, _⟩ => ⟨S6x2x256, .f32⟩
  | .hbm, ⟨13, _⟩ => ⟨S6x2x256, .f32⟩
  | .hbm, ⟨14, _⟩ => ⟨S56x128, .f32⟩
  | .hbm, ⟨15, _⟩ => ⟨S1536x7168, .fp8e5m2⟩
  | .hbm, ⟨16, _⟩ => ⟨S6x56x256, .f32⟩
  | .hbm, ⟨17, _⟩ => ⟨S56x128, .f32⟩
  | .hbm, ⟨18, _⟩ => ⟨S56x128, .f32⟩
  | .local _ .vmem, ⟨0, _⟩ => ⟨S128x7168, .bf16⟩
  | .local _ .vmem, ⟨1, _⟩ => ⟨S128x7168, .bf16⟩
  | .local _ .vmem, ⟨2, _⟩ => ⟨S128x7168, .bf16⟩
  | .local _ .vmem, ⟨3, _⟩ => ⟨S128x7168, .bf16⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x2x128, .f32⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S56x128, .f32⟩
  | .local _ .vmem, ⟨13, _⟩ => ⟨S128x7168, .fp8e5m2⟩
  | .local _ .vmem, ⟨14, _⟩ => ⟨S128x7168, .fp8e5m2⟩
  | .local _ .vmem, ⟨15, _⟩ => ⟨S1x56x128, .f32⟩
  | .local _ .vmem, ⟨16, _⟩ => ⟨S1x56x128, .f32⟩
  | .local _ .vmem, ⟨17, _⟩ => ⟨S56x128, .f32⟩
  | .local _ .vmem, ⟨18, _⟩ => ⟨S56x128, .f32⟩
  | .local _ .vmem, ⟨19, _⟩ => ⟨S32x7168, .f32⟩
  | .local _ .vmem, ⟨20, _⟩ => ⟨S32x7168, .f32⟩
  | .local _ .vmem, ⟨21, _⟩ => ⟨S128x128, .f32⟩
  | .local _ .vmem, ⟨22, _⟩ => ⟨S8x7168, .f32⟩
  | .local _ .vmem, ⟨23, _⟩ => ⟨S8x7168, .f32⟩
  | .local _ .smem, ⟨0, _⟩ => ⟨S2, .f32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v23867 : BitVec 1 := Scalar.cmpi .eq arg0 c11_i32
  let v23868 : BitVec 32 := Scalar.extui v23867
  let c0_i32_11346 : BitVec 32 := 0#32
  let v23869 : BitVec 1 := Scalar.cmpi .ne v23868 c0_i32_11346
  v23869

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S56x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x7168 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x56x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S56x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S56x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S6x256x7168 : Shape := ⟨3, ![6, 256, 7168]⟩
abbrev S6x256 : Shape := ⟨2, ![6, 256]⟩
abbrev S7168 : Shape := ⟨1, ![7168]⟩
abbrev S2 : Shape := ⟨1, ![2]⟩
abbrev S2x6x256 : Shape := ⟨3, ![2, 6, 256]⟩
abbrev S1536x7168 : Shape := ⟨2, ![1536, 7168]⟩
abbrev S1536 : Shape := ⟨1, ![1536]⟩
abbrev S2x1536 : Shape := ⟨2, ![2, 1536]⟩
abbrev S1536x1 : Shape := ⟨2, ![1536, 1]⟩
abbrev S1x7168 : Shape := ⟨2, ![1, 7168]⟩
abbrev S_ : Shape := ⟨0, ![]⟩
abbrev S1 : Shape := ⟨1, ![1]⟩
abbrev S1x1536 : Shape := ⟨2, ![1, 1536]⟩
abbrev S1536x56x128 : Shape := ⟨3, ![1536, 56, 128]⟩
abbrev S1536x56 : Shape := ⟨2, ![1536, 56]⟩
abbrev S239 : Shape := ⟨1, ![239]⟩
abbrev S1536x56x1 : Shape := ⟨3, ![1536, 56, 1]⟩
abbrev S1x1x239 : Shape := ⟨3, ![1, 1, 239]⟩
abbrev S1536x56x239 : Shape := ⟨3, ![1536, 56, 239]⟩
abbrev S6x256x56 : Shape := ⟨3, ![6, 256, 56]⟩
abbrev S6x56x256 : Shape := ⟨3, ![6, 56, 256]⟩
abbrev S56x128 : Shape := ⟨2, ![56, 128]⟩

abbrev nBuf : Space → Nat
  | .hbm => 114
  | .vmem => 2
  | .smem => 0
  | _ => 0

abbrev bufTy : (tb : Table) → Fin (tcTables nBuf tb) → BufTy
  | .hbm, ⟨0, _⟩ => ⟨S6x256x7168, .bf16⟩
  | .hbm, ⟨1, _⟩ => ⟨S6x256x7168, .bf16⟩
  | .hbm, ⟨2, _⟩ => ⟨S6x256, .f32⟩
  | .hbm, ⟨3, _⟩ => ⟨S6x256, .f32⟩
  | .hbm, ⟨4, _⟩ => ⟨S7168, .f32⟩
  | .hbm, ⟨5, _⟩ => ⟨S2, .f32⟩
  | .hbm, ⟨6, _⟩ => ⟨S2x6x256, .f32⟩
  | .hbm, ⟨7, _⟩ => ⟨S2x6x256, .f32⟩
  | .hbm, ⟨8, _⟩ => ⟨S1536x7168, .bf16⟩
  | .hbm, ⟨9, _⟩ => ⟨S1536x7168, .f32⟩
  | .hbm, ⟨10, _⟩ => ⟨S1536x7168, .bf16⟩
  | .hbm, ⟨11, _⟩ => ⟨S1536x7168, .f32⟩
  | .hbm, ⟨12, _⟩ => ⟨S1536, .f32⟩
  | .hbm, ⟨13, _⟩ => ⟨S1536, .f32⟩
  | .hbm, ⟨14, _⟩ => ⟨S2x1536, .f32⟩
  | .hbm, ⟨15, _⟩ => ⟨S2x1536, .f32⟩
  | .hbm, ⟨16, _⟩ => ⟨S1536x1, .f32⟩
  | .hbm, ⟨17, _⟩ => ⟨S1536x7168, .f32⟩
  | .hbm, ⟨18, _⟩ => ⟨S1536x7168, .f32⟩
  | .hbm, ⟨19, _⟩ => ⟨S1536x1, .f32⟩
  | .hbm, ⟨20, _⟩ => ⟨S1536x7168, .f32⟩
  | .hbm, ⟨21, _⟩ => ⟨S1536x7168, .f32⟩
  | .hbm, ⟨22, _⟩ => ⟨S1x7168, .f32⟩
  | .hbm, ⟨23, _⟩ => ⟨S1536x7168, .f32⟩
  | .hbm, ⟨24, _⟩ => ⟨S1536x7168, .f32⟩
  | .hbm, ⟨25, _⟩ => ⟨S_, .f32⟩
  | .hbm, ⟨26, _⟩ => ⟨S1536, .f32⟩
  | .hbm, ⟨27, _⟩ => ⟨S1536x7168, .f32⟩
  | .hbm, ⟨28, _⟩ => ⟨S_, .f32⟩
  | .hbm, ⟨29, _⟩ => ⟨S1536, .f32⟩
  | .hbm, ⟨30, _⟩ => ⟨S1, .f32⟩
  | .hbm, ⟨31, _⟩ => ⟨S_, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S1536, .f32⟩
  | .hbm, ⟨36, _⟩ => ⟨S_, .f32⟩
  | .hbm, ⟨37, _⟩ => ⟨S_, .f32⟩
  | .hbm, ⟨38, _⟩ => ⟨S1536, .f32⟩
  | .hbm, ⟨39, _⟩ => ⟨S1536, .f32⟩
  | .hbm, ⟨40, _⟩ => ⟨S1, .f32⟩
  | .hbm, ⟨41, _⟩ => ⟨S_, .f32⟩
  | .hbm, ⟨42, _⟩ => ⟨S1x1536, .f32⟩
  | .hbm, ⟨43, _⟩ => ⟨S1536, .f32⟩
  | .hbm, ⟨44, _⟩ => ⟨S1x1536, .f32⟩
  | .hbm, ⟨45, _⟩ => ⟨S1536, .f32⟩
  | .hbm, ⟨46, _⟩ => ⟨S_, .f32⟩
  | .hbm, ⟨47, _⟩ => ⟨S1536, .f32⟩
  | .hbm, ⟨48, _⟩ => ⟨S1536, .f32⟩
  | .hbm, ⟨49, _⟩ => ⟨S1536x1, .f32⟩
  | .hbm, ⟨50, _⟩ => ⟨S1536, .f32⟩
  | .hbm, ⟨51, _⟩ => ⟨S1536, .f32⟩
  | .hbm, ⟨52, _⟩ => ⟨S1536x1, .f32⟩
  | .hbm, ⟨53, _⟩ => ⟨S1536x7168, .f32⟩
  | .hbm, ⟨54, _⟩ => ⟨S1536x7168, .f32⟩
  | .hbm, ⟨55, _⟩ => ⟨S1536, .f32⟩
  | .hbm, ⟨56, _⟩ => ⟨S1536, .f32⟩
  | .hbm, ⟨57, _⟩ => ⟨S1536x1, .f32⟩
  | .hbm, ⟨58, _⟩ => ⟨S1536x7168, .f32⟩
  | .hbm, ⟨59, _⟩ => ⟨S1536x7168, .f32⟩
  | .hbm, ⟨60, _⟩ => ⟨S1536x7168, .f32⟩
  | .hbm, ⟨61, _⟩ => ⟨S1536x7168, .f32⟩
  | .hbm, ⟨62, _⟩ => ⟨S1536x7168, .f32⟩
  | .hbm, ⟨63, _⟩ => ⟨S1536x56x128, .f32⟩
  | .hbm, ⟨64, _⟩ => ⟨S1536x56x128, .f32⟩
  | .hbm, ⟨65, _⟩ => ⟨S_, .f32⟩
  | .hbm, ⟨66, _⟩ => ⟨S1536x56, .f32⟩
  | .hbm, ⟨67, _⟩ => ⟨S_, .f32⟩
  | .hbm, ⟨68, _⟩ => ⟨S1536x56, .f32⟩
  | .hbm, ⟨69, _⟩ => ⟨S1536x56, .f32⟩
  | .hbm, ⟨70, _⟩ => ⟨S239, .i32⟩
  | .hbm, ⟨71, _⟩ => ⟨S_, .i32⟩
  | .hbm, ⟨72, _⟩ => ⟨S239, .i32⟩
  | .hbm, ⟨73, _⟩ => ⟨S239, .i32⟩
  | .hbm, ⟨74, _⟩ => ⟨S239, .f32⟩
  | .hbm, ⟨75, _⟩ => ⟨S_, .f32⟩
  | .hbm, ⟨76, _⟩ => ⟨S239, .f32⟩
  | .hbm, ⟨77, _⟩ => ⟨S239, .f32⟩
  | .hbm, ⟨78, _⟩ => ⟨S1536x56x1, .f32⟩
  | .hbm, ⟨79, _⟩ => ⟨S1x1x239, .f32⟩
  | .hbm, ⟨80, _⟩ => ⟨S1536x56x239, .f32⟩
  | .hbm, ⟨81, _⟩ => ⟨S1536x56x239, .f32⟩
  | .hbm, ⟨82, _⟩ => ⟨S1536x56x239, .i1⟩
  | .hbm, ⟨83, _⟩ => ⟨S_, .f32⟩
  | .hbm, ⟨84, _⟩ => ⟨S_, .f32⟩
  | .hbm, ⟨85, _⟩ => ⟨S1536x56x239, .f32⟩
  | .hbm, ⟨86, _⟩ => ⟨S1536x56x239, .f32⟩
  | .hbm, ⟨87, _⟩ => ⟨S1536x56x239, .f32⟩
  | .hbm, ⟨88, _⟩ => ⟨S_, .f32⟩
  | .hbm, ⟨89, _⟩ => ⟨S1536x56, .f32⟩
  | .hbm, ⟨90, _⟩ => ⟨S1536x56, .i1⟩
  | .hbm, ⟨91, _⟩ => ⟨S_, .f32⟩
  | .hbm, ⟨92, _⟩ => ⟨S1536x56, .f32⟩
  | .hbm, ⟨93, _⟩ => ⟨S_, .f32⟩
  | .hbm, ⟨94, _⟩ => ⟨S_, .f32⟩
  | .hbm, ⟨95, _⟩ => ⟨S1536x56, .f32⟩
  | .hbm, ⟨96, _⟩ => ⟨S1536x56, .f32⟩
  | .hbm, ⟨97, _⟩ => ⟨S_, .f32⟩
  | .hbm, ⟨98, _⟩ => ⟨S1536x56, .f32⟩
  | .hbm, ⟨99, _⟩ => ⟨S1536x56, .f32⟩
  | .hbm, ⟨100, _⟩ => ⟨S1536x56x1, .f32⟩
  | .hbm, ⟨101, _⟩ => ⟨S1536x56x128, .f32⟩
  | .hbm, ⟨102, _⟩ => ⟨S1536x56x128, .f32⟩
  | .hbm, ⟨103, _⟩ => ⟨S1536x7168, .f32⟩
  | .hbm, ⟨104, _⟩ => ⟨S6x256x56, .f32⟩
  | .hbm, ⟨105, _⟩ => ⟨S6x56x256, .f32⟩
  | .hbm, ⟨106, _⟩ => ⟨S1536x7168, .f32⟩
  | .hbm, ⟨107, _⟩ => ⟨S_, .f32⟩
  | .hbm, ⟨108, _⟩ => ⟨S7168, .f32⟩
  | .hbm, ⟨109, _⟩ => ⟨S56x128, .f32⟩
  | .hbm, ⟨110, _⟩ => ⟨S_, .f32⟩
  | .hbm, ⟨111, _⟩ => ⟨S7168, .f32⟩
  | .hbm, ⟨112, _⟩ => ⟨S56x128, .f32⟩
  | .hbm, ⟨113, _⟩ => ⟨S1536x7168, .fp8e5m2⟩
  | .local _ .vmem, ⟨0, _⟩ => ⟨S1536x7168, .f32⟩
  | .local _ .vmem, ⟨1, _⟩ => ⟨S1536x7168, .fp8e5m2⟩
  | _, _ => ⟨S6x256x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_2 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_cst_8 : Ref sig .tc := ⟨.hbm, 93, rfl⟩
abbrev main_call1_v0 : Ref sig .tc := ⟨.hbm, 94, rfl⟩
abbrev main_call1_v1 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_10 : Ref sig .tc := ⟨.hbm, 107, rfl⟩
abbrev main_v82 : Ref sig .tc := ⟨.hbm, 108, rfl⟩
abbrev main_v83 : Ref sig .tc := ⟨.hbm, 109, rfl⟩
abbrev main_cst_11 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kern.Body.lean ====
/- The kernel's body as a program with loops.

   The printed body is straight-line: four groups of 32 rows, each a first pass and a second pass over the
   56 column blocks, all written out. This module states the same body with the loops folded back (`body`), over any
   signature and any reading of the floats, so that what a pass does is proved once, for a symbolic row group
   and column block. `Kern/Same*.lean` shows that each printed body is this one. -/
module

public import Idealize.ShloMosaic.Lib.Pipeline
public import Idealize.ShloMosaic.Lib.Scf
public import Idealize.ShloMosaic.Lib.Sig
public import Idealize.ShloMosaic.PureOps

@[expose] public section

noncomputable section

namespace LnBwd

open Idealize.ShloMosaic Idealize.SL.Sem

/-! ## Shapes -/

abbrev S2 : Shape := ⟨1, ![2]⟩
abbrev S1 : Shape := ⟨1, ![1]⟩
abbrev S32 : Shape := ⟨1, ![32]⟩
abbrev S128 : Shape := ⟨1, ![128]⟩
abbrev S1x1x128 : Shape := ⟨3, ![1, 1, 128]⟩
abbrev S1x2x128 : Shape := ⟨3, ![1, 2, 128]⟩
abbrev S1x56x128 : Shape := ⟨3, ![1, 56, 128]⟩
abbrev S56x128 : Shape := ⟨2, ![56, 128]⟩
abbrev S128x7168 : Shape := ⟨2, ![128, 7168]⟩
abbrev S32x7168 : Shape := ⟨2, ![32, 7168]⟩
abbrev S8x7168 : Shape := ⟨2, ![8, 7168]⟩
abbrev S128x128 : Shape := ⟨2, ![128, 128]⟩
abbrev S32x128 : Shape := ⟨2, ![32, 128]⟩
abbrev S8x128 : Shape := ⟨2, ![8, 128]⟩
abbrev S1x128 : Shape := ⟨2, ![1, 128]⟩
abbrev S32x1 : Shape := ⟨2, ![32, 1]⟩
abbrev S4x8x128 : Shape := ⟨3, ![4, 8, 128]⟩

/-! ## The rectangles: column block `j` and row group `s` -/

theorem inbRows : ∀ (s : Fin 4) (j : Fin 56) (a : Fin 2), (![32 * s.val, 128 * j.val] : Fin 2 → Nat) a + S32x128.size a ≤ S128x7168.size a := by decide
theorem inbCols : ∀ (j : Fin 56) (a : Fin 2), (![0, 128 * j.val] : Fin 2 → Nat) a + S32x128.size a ≤ S32x7168.size a := by decide
theorem inbAcc : ∀ (j : Fin 56) (a : Fin 2), (![0, 128 * j.val] : Fin 2 → Nat) a + S8x128.size a ≤ S8x7168.size a := by decide
theorem inbRow : ∀ (j : Fin 56) (a : Fin 2), (![j.val, 0] : Fin 2 → Nat) a + S1x128.size a ≤ S56x128.size a := by decide
theorem inbSc : ∀ (s : Fin 4) (j : Fin 56) (a : Fin 2), (![32 * s.val, j.val] : Fin 2 → Nat) a + S32x1.size a ≤ S128x128.size a := by decide
theorem inbCnt : ∀ (k : Fin 2) (a : Fin 1), (![k.val] : Fin 1 → Nat) a + S1.size a ≤ S2.size a := by decide
theorem inbPeer : ∀ (k : Fin 2) (a : Fin 3), (![0, k.val, 0] : Fin 3 → Nat) a + S1x1x128.size a ≤ S1x2x128.size a := by decide

/-- Rows `32 s … 32 s + 31`, columns `128 j … 128 j + 127` of the 128-row block. -/
abbrev rRows (s : Fin 4) (j : Fin 56) : Rect S128x7168 := Rect.unit ![32 * s.val, 128 * j.val] S32x128.size (inbRows s j)
/-- Columns `128 j …` of the 32-row scratch. -/
abbrev rCols (j : Fin 56) : Rect S32x7168 := Rect.unit ![0, 128 * j.val] S32x128.size (inbCols j)
/-- Columns `128 j …` of an 8-row accumulator. -/
abbrev rAcc (j : Fin 56) : Rect S8x7168 := Rect.unit ![0, 128 * j.val] S8x128.size (inbAcc j)
/-- Row `j` of a 56-row array. -/
abbrev rRow (j : Fin 56) : Rect S56x128 := Rect.unit ![j.val, 0] S1x128.size (inbRow j)
/-- Rows `32 s …` of column `j` of the scale scratch. -/
abbrev rSc (s : Fin 4) (j : Fin 56) : Rect S128x128 := Rect.unit ![32 * s.val, j.val] S32x1.size (inbSc s j)
abbrev rCnt (k : Fin 2) : Rect S2 := Rect.unit ![k.val] S1.size (inbCnt k)
abbrev rPeer (k : Fin 2) : Rect S1x2x128 := Rect.unit ![0, k.val, 0] S1x1x128.size (inbPeer k)
abbrev rTok : Rect S1x1x128 := Rect.unit ![0, 0, 0] S1x1x128.size (by decide)
abbrev rAccAll : Rect S8x7168 := Rect.unit ![0, 0] S8x7168.size (by decide)
abbrev rScAll : Rect S128x128 := Rect.unit ![0, 0] S128x128.size (by decide)
abbrev rOut : Rect S1x56x128 := Rect.unit ![0, 0, 0] S1x56x128.size (by decide)

theorem pos32 : 0 < S32x128.numel := by decide
theorem pos8 : 0 < S8x128.numel := by decide
theorem pos1 : 0 < S1x128.numel := by decide
theorem posSc : 0 < S32x1.numel := by decide
theorem packedRows : ∀ (s : Fin 4) (j : Fin 56), (rRows s j).PackedRows (EltTy.packing .fp8e5m2) := by decide
theorem slicesRows : ∀ s : Fin 4, S128x128.Slices ![32 * s.val, 0] S32x128 := by decide

/-! ## What is computed, as functions of the values loaded -/

variable {F : FTy → Type} [FloatOps F]

/-- A row of 128 tokens' values as a column, repeated over 128 lanes. -/
def column (row : FVec F S1x128 .f32) : FVec F S128x128 .f32 :=
  transpose S128x128 [1, 0] (broadcastTo S128x128 (shapeCast S1x128 row (by decide)) (by decide)) (by decide)
/-- One window row of a token array. -/
def tokRow (v : Vec F S1x1x128 .f32) : FVec F S1x128 .f32 := shapeCast S1x128 v (by decide)
/-- The two peers' rows, added. -/
def peerRow (u v : Vec F S1x1x128 .f32) : FVec F S1x128 .f32 := addf (tokRow u) (tokRow v)
/-- Row group `s` of a column. -/
def group (s : Fin 4) (v : FVec F S128x128 .f32) : FVec F S32x128 .f32 :=
  extractStridedSlice S32x128 ![32 * s.val, 0] v (slicesRows s)

def wide (v : Vec F S32x128 .bf16) : FVec F S32x128 .f32 :=
  extf .f32 (shapeCast (α := F .bf16) S32x128 v (by decide)) (by decide)
def centre (m : FVec F S32x128 .f32) (x : FVec F S32x128 .f32) : FVec F S32x128 .f32 := subf x m
def gammaRow (v : Vec F S1x128 .f32) : FVec F S32x128 .f32 :=
  broadcastTo S32x128 (shapeCast S1x128 v (by decide)) (by decide)
def same32 (v : FVec F S32x128 .f32) : FVec F S32x128 .f32 := shapeCast S32x128 v (by decide)
def same8 (v : FVec F S8x128 .f32) : FVec F S8x128 .f32 := shapeCast S8x128 v (by decide)
/-- An 8-row accumulator with a 32-row block's rows added, four to a row. -/
def accum (a : Vec F S8x128 .f32) (v : FVec F S32x128 .f32) : FVec F S8x128 .f32 :=
  addf a (multiReduction .add [0] S8x128 (shapeCast S4x8x128 v (by decide)) 0x00000000#32 (by decide) (.inl rfl) rfl)
/-- The sum along each row, in one lane. -/
def rowSum (v : FVec F S32x128 .f32) : FVec F S32x1 .f32 :=
  shapeCast S32x1 (multiReduction .add [1] S32 v 0x00000000#32 (by decide) (.inl rfl) rfl) (by decide)
def lanes (v : FVec F S32x1 .f32) : FVec F S32x128 .f32 := broadcastTo S32x128 v (by decide)
def lanes' (v : FVec F S32x1 .f32) : FVec F S32x128 .f32 := lanes (shapeCast S32x1 v (by decide))
/-- The mean of `g` over all ranks. -/
def coeff1 (n : F .f32) (r pg s1 : FVec F S32x128 .f32) : FVec F S32x128 .f32 :=
  divf (addf (lanes (rowSum s1)) (mulf r pg)) (broadcast S32x128 n)
def coeff2 (n : F .f32) (r pgx s2 : FVec F S32x128 .f32) : FVec F S32x128 .f32 :=
  mulf (mulf r r) (divf (addf (lanes (rowSum s2)) pgx) (broadcast S32x128 n))
/-- One block of dx. -/
def dxOf (c1 c2 g xc : FVec F S32x128 .f32) : FVec F S32x128 .f32 := subf g (addf (mulf xc c2) c1)
/-- Each row's largest magnitude over 57344, in every lane. -/
def amaxScaled (v : FVec F S32x128 .f32) : FVec F S32x128 .f32 :=
  mulf (lanes' (shapeCast S32x1 (multiReduction .maximumf [1] S32 (absf v) 0xFF800000#32 (by decide) (.inl rfl) rfl) (by decide)))
    (broadcast S32x128 (Scalar.ofBits .f32 0x37924925#32))
def lane : IVec S32x128 32 := iota .tc S32x128 32 [1] (by decide)
/-- The powers of two with exponent fields 1 … 128, one to a lane. -/
def lowPow : FVec F S32x128 .f32 :=
  bitcastToFloat .f32 (shli (addi lane (broadcast S32x128 1#32)) (broadcast S32x128 23#32))
/-- Those with exponent fields 129 … 239, then infinity. -/
def highPow : FVec F S32x128 .f32 :=
  bitcastToFloat .f32 (shli (select (cmpi .slt lane (broadcast S32x128 111#32)) (addi lane (broadcast S32x128 129#32)) (broadcast S32x128 255#32)) (broadcast S32x128 23#32))
def oneIf (c : IVec S32x128 1) : FVec F S32x128 .f32 :=
  select c (broadcast S32x128 (Scalar.ofBits .f32 0x3F800000#32 : F .f32)) (broadcast S32x128 (Scalar.ofBits .f32 0x00000000#32 : F .f32))
/-- The exponent field of `t`: how many powers of two it has reached. -/
def field (t : FVec F S32x128 .f32) : IVec S32x128 32 :=
  fptosi 32 (lanes' (rowSum (addf (oneIf (F := F) (cmpf .oge t lowPow)) (oneIf (F := F) (cmpf .oge t highPow)))))
/-- The exponent of the scale. -/
def expo (t : FVec F S32x128 .f32) : IVec S32x128 32 :=
  select (cmpi .eq (field t) (broadcast S32x128 0#32)) (broadcast S32x128 0#32) (subi (field t) (broadcast S32x128 126#32))
/-- `2 ^ e`, from its bits. -/
def pow2 (e : IVec S32x128 32) : FVec F S32x128 .f32 :=
  bitcastToFloat .f32 (shli (addi e (broadcast S32x128 127#32)) (broadcast S32x128 23#32))
/-- One block's codes. -/
def codesOf (v : FVec F S32x128 .f32) : FVec F S32x128 .fp8e5m2 :=
  truncf .fp8e5m2 (minimumf (broadcast S32x128 (Scalar.ofBits .f32 0x47600000#32))
    (maximumf (broadcast S32x128 (Scalar.ofBits .f32 0xC7600000#32))
      (mulf v (pow2 (subi (broadcast S32x128 0#32) (expo (amaxScaled v))))))) (by decide)
/-- One block's scales, one per row. -/
def scalesOf (v : FVec F S32x128 .f32) : FVec F S32x1 .f32 :=
  shapeCast S32x1 (extractStridedSlice S32x1 ![0, 0] (pow2 (expo (amaxScaled v))) (by decide)) (by decide)
/-- The scale scratch's first 56 columns, turned into rows. -/
def scaleRows (v : Vec F S128x128 .f32) : FVec F S1x56x128 .f32 :=
  shapeCast S1x56x128 (extractStridedSlice S56x128 ![0, 0] (transpose S128x128 [1, 0] v (by decide)) (by decide)) (by decide)
/-- An accumulator's eight rows, added. -/
def colSum (a : Vec F S8x128 .f32) : FVec F S1x128 .f32 :=
  shapeCast S1x128 (multiReduction .add [0] S128 a 0x00000000#32 (by decide) (.inl rfl) rfl) (by decide)
def zeros8 : FVec F S8x7168 .f32 :=
  shapeCast S8x7168 (broadcast S8x7168 (Scalar.ofBits .f32 0x00000000#32 : F .f32)) (by decide)
def zeros32 : FVec F S32x128 .f32 := broadcast S32x128 (Scalar.ofBits .f32 0x00000000#32 : F .f32)

/-! ## The body -/

/-- The buffers the body is called with. -/
structure Refs (sig : RefSig) where
  cnt : Memref sig .tc .smem S2 .f32
  x : Memref sig .tc .vmem S128x7168 .bf16
  dy : Memref sig .tc .vmem S128x7168 .bf16
  mean : Memref sig .tc .vmem S1x1x128 .f32
  rstd : Memref sig .tc .vmem S1x1x128 .f32
  pg : Memref sig .tc .vmem S1x2x128 .f32
  pgx : Memref sig .tc .vmem S1x2x128 .f32
  gamma : Memref sig .tc .vmem S56x128 .f32
  codes : Memref sig .tc .vmem S128x7168 .fp8e5m2
  codesWhole : codes.IsWhole
  scales : Memref sig .tc .vmem S1x56x128 .f32
  dgamma : Memref sig .tc .vmem S56x128 .f32
  dbeta : Memref sig .tc .vmem S56x128 .f32
  xc : Memref sig .tc .vmem S32x7168 .f32
  g : Memref sig .tc .vmem S32x7168 .f32
  sc : Memref sig .tc .vmem S128x128 .f32
  dgam : Memref sig .tc .vmem S8x7168 .f32
  dbet : Memref sig .tc .vmem S8x7168 .f32

variable {nD : Nat} {τ : Topo} {sig : RefSig} {Λ : Labels}

/-- Run `f` on the column blocks `lo, lo + 1, …`, `n` of them, passing a value along. -/
def blocks {σ : Type} (f : Fin 56 → σ → Prog (TpuEff nD τ sig (Elt F) Λ .tc) σ) :
    (n lo : Nat) → lo + n ≤ 56 → σ → Prog (TpuEff nD τ sig (Elt F) Λ .tc) σ
  | 0, _, _, a => pure a
  | n + 1, lo, h, a => f ⟨lo, by omega⟩ a >>= fun b => blocks f n (lo + 1) (by omega) b

/-- Load a rectangle of a vector buffer. -/
abbrev ld {s : Shape} {e : EltTy} (m : Memref sig .tc .vmem s e) (r : Rect s) (h : 0 < r.shape.numel) :
    Prog (TpuEff nD τ sig (Elt F) Λ .tc) (r.shape.Idx → Elt F e) :=
  Prog.lift (.load m r.toLoadRect (View.loadsAt_vmem h))

/-- Store a rectangle of a 32-bit vector buffer; the printed body loads it first, and drops what it read. -/
abbrev st {s : Shape} (m : Memref sig .tc .vmem s .f32) (r : Rect s) (h : 0 < r.shape.numel) (v : r.shape.Idx → Elt F .f32) :
    Prog (TpuEff nD τ sig (Elt F) Λ .tc) PUnit :=
  Prog.lift (.load m r.toLoadRect (View.loadsAt_vmem h)) >>= fun _ =>
    Prog.lift (.store m r v Finset.univ (View.stores_vmem_bits_univ h rfl) (.inl rfl))

/-- The first pass over block `j`: centred x and g kept, the row sums and the two accumulators advanced. -/
def pass1 (R : Refs sig) (s : Fin 4) (r m : FVec F S32x128 .f32) (j : Fin 56)
    : FVec F S32x128 .f32 × FVec F S32x128 .f32 →
    Prog (TpuEff nD τ sig (Elt F) Λ .tc) (FVec F S32x128 .f32 × FVec F S32x128 .f32)
  | (s1, s2) => do
  let dyv : Vec F S32x128 .bf16 ← ld R.dy (rRows s j) pos32
  let xv : Vec F S32x128 .bf16 ← ld R.x (rRows s j) pos32
  let dy := wide dyv
  let xc := centre m (wide xv)
  let q := mulf dy r
  let gav : Vec F S1x128 .f32 ← ld R.gamma (rRow j) pos1
  let g := mulf q (gammaRow gav)
  st R.xc (rCols j) pos32 (same32 xc)
  st R.g (rCols j) pos32 (same32 g)
  let ag : Vec F S8x128 .f32 ← ld R.dgam (rAcc j) pos8
  st R.dgam (rAcc j) pos8 (same8 (accum ag (mulf q xc)))
  let ab : Vec F S8x128 .f32 ← ld R.dbet (rAcc j) pos8
  st R.dbet (rAcc j) pos8 (same8 (accum ab dy))
  pure (addf s1 g, addf s2 (mulf g xc))

/-- The second pass over block `j`: its dx, quantised. -/
def pass2 (R : Refs sig) (s : Fin 4) (c1 c2 : FVec F S32x128 .f32) (j : Fin 56) :
    Prog (TpuEff nD τ sig (Elt F) Λ .tc) PUnit := do
  let g : Vec F S32x128 .f32 ← ld R.g (rCols j) pos32
  let xc : Vec F S32x128 .f32 ← ld R.xc (rCols j) pos32
  let v := dxOf c1 c2 g xc
  let _ : Vec F S32x128 .fp8e5m2 ← ld R.codes (rRows s j) pos32
  Prog.lift (.store R.codes (rRows s j) (codesOf v) Finset.univ
    (View.stores_vmem pos32 (R.codesWhole.storeExact_slice rfl _ (packedRows s j)) (fun _ => rfl)) (.inl rfl))
  st R.sc (rSc s j) posSc (scalesOf v)

/-- Row group `s`. -/
def rowGroup (R : Refs sig) (n : F .f32) (r m pg pgx : FVec F S128x128 .f32) (s : Fin 4) :
    Prog (TpuEff nD τ sig (Elt F) Λ .tc) PUnit := do
  let (s1, s2) ← blocks (pass1 R s (group s r) (group s m)) 56 0 (by decide) (zeros32, zeros32)
  blocks (fun j _ => pass2 R s (coeff1 n (group s r) (group s pg) s1) (coeff2 n (group s r) (group s pgx) s2) j) 56 0 (by decide) ⟨⟩

/-- The last grid point: block `j` of dgamma and dbeta. -/
def finish (R : Refs sig) (j : Fin 56) : Prog (TpuEff nD τ sig (Elt F) Λ .tc) PUnit := do
  let a : Vec F S8x128 .f32 ← ld R.dgam (rAcc j) pos8
  st R.dgamma (rRow j) pos1 (colSum a)
  let b : Vec F S8x128 .f32 ← ld R.dbet (rAcc j) pos8
  st R.dbeta (rRow j) pos1 (colSum b)

/-- The first grid point: the accumulators at zero. -/
def start (R : Refs sig) : Prog (TpuEff nD τ sig (Elt F) Λ .tc) PUnit := do
  st R.dgam rAccAll (by decide) zeros8
  st R.dbet rAccAll (by decide) zeros8

/-- Whether grid point `i` is the point `k`, as the body computes it. -/
abbrev isPoint (i k : BitVec 32) : BitVec 1 := Scalar.cmpi .ne (Scalar.extui (Scalar.cmpi .eq i k)) (0#32 : BitVec 32)

/-- The values every row group uses: the count `n`, then rstd, mean and the two peer sums, a token to a row. -/
abbrev Head (F : FTy → Type) [FloatOps F] : Type :=
  F .f32 × FVec F S128x128 .f32 × FVec F S128x128 .f32 × FVec F S128x128 .f32 × FVec F S128x128 .f32

/-- The start of a grid point: the accumulators at zero at the first one, and the values read. -/
def prologue (R : Refs sig) (i : BitVec 32) : Prog (TpuEff nD τ sig (Elt F) Λ .tc) (Head F) := do
  let c0 : Elt F .f32 ← smemLoad R.cnt (rCnt 0) (by decide) rfl
  let c1 : Elt F .f32 ← smemLoad R.cnt (rCnt 1) (by decide) rfl
  let n : F .f32 := Scalar.addf (Scalar.addf c0 (Scalar.ofBits .f32 0x45E00000#32)) c1
  if _h : isPoint i 0#32 = 1#1 then start R else pure ⟨⟩
  let rv : Vec F S1x1x128 .f32 ← ld R.rstd rTok (by decide)
  let mv : Vec F S1x1x128 .f32 ← ld R.mean rTok (by decide)
  let p0 : Vec F S1x1x128 .f32 ← ld R.pg (rPeer 0) (by decide)
  let p1 : Vec F S1x1x128 .f32 ← ld R.pg (rPeer 1) (by decide)
  let q0 : Vec F S1x1x128 .f32 ← ld R.pgx (rPeer 0) (by decide)
  let q1 : Vec F S1x1x128 .f32 ← ld R.pgx (rPeer 1) (by decide)
  pure (n, column (tokRow rv), column (tokRow mv), column (peerRow p0 p1), column (peerRow q0 q1))

/-- The last grid point's work, where `i` is the last grid point. -/
def epilogue (R : Refs sig) (i : BitVec 32) : Prog (TpuEff nD τ sig (Elt F) Λ .tc) PUnit := do
  let sv : Vec F S128x128 .f32 ← ld R.sc rScAll (by decide)
  st R.scales rOut (by decide) (scaleRows sv)
  if _h : isPoint i 11#32 = 1#1 then
    blocks (fun j _ => finish R j) 56 0 (by decide) ⟨⟩
  else pure ⟨⟩
  pure ⟨⟩

/-- What follows the prologue. -/
def groups (R : Refs sig) (i : BitVec 32) (n : F .f32) (r m pg pgx : FVec F S128x128 .f32) :
    Prog (TpuEff nD τ sig (Elt F) Λ .tc) PUnit := do
  rowGroup R n r m pg pgx 0
  rowGroup R n r m pg pgx 1
  rowGroup R n r m pg pgx 2
  rowGroup R n r m pg pgx 3
  epilogue R i

/-- The body at grid point `i`. -/
def body (R : Refs sig) (i : BitVec 32) : Prog (TpuEff nD τ sig (Elt F) Λ .tc) PUnit :=
  prologue R i >>= fun (n, r, m, pg, pgx) => groups R i n r m pg pgx

end LnBwd

end
-- ==== Proof.Kern.Rules.lean ====
/-
  Loads and stores of a buffer held at known contents, and a loop over column blocks by an invariant.
-/
module

public import proofs.«01_k».proof.Proof.Kern.Body
public import Idealize.ShloMosaic.Lib.Pipeline.Kit

@[expose] public section

noncomputable section

namespace LnBwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels}
variable {Val : EltTy → Type} {U : Type} [URA U]
variable {defs : Defs nD τ sig Val Λ} {𝒱 : Variants} {c : Dev nD} {E : Set ℕ}
variable {s : Shape} {e : EltTy} {α : Type}

local notation "𝕄" => MT nD τ sig Unit Val ℕ U ℕ

variable {Q : α → sProp (MT nD τ sig Unit Val ℕ U ℕ)}

/-- A load of a buffer that reads `X` yields `X` on the rectangle. -/
theorem owns_load {cs : CoreSpace} {m : Memref sig .tc cs s e} {r : Rect s} {hl : m.view.LoadsAt r.toLoadRect}
    {k : (r.shape.Idx → Val e) → Prog (TpuEff nD τ sig Val Λ .tc) α} (X : s.Idx → Val e) :
    (owns (c : Thread nD τ) m fullShare X : sProp 𝕄)
      ⊢ iprop((owns (c : Thread nD τ) m fullShare X -∗ wp frame (wpE defs 𝒱 (c : Thread nD τ) none) E (k fun y => X (r.emb y)) Q)
        -∗ wp frame (wpE defs 𝒱 (c : Thread nD τ) none) E (.op (.load m r.toLoadRect hl) k) Q) := by
  unfold owns
  iintro ⟨%f, %hf, H⟩ Hk
  iapply (wp_load 𝒱 (c : Thread nD τ) none E (S := m.view.set) (View.setOn_subset_set _ _)) $$ H
  iintro H
  have e : m.view.readAt Val r.toLoadRect f = fun y => X (r.emb y) := by subst hf; rfl
  rw [e]
  iapply Hk
  iexists f; isplitr; · ipureintro; exact hf
  iexact H

/-- A store into a buffer that reads `X` leaves it reading `X` with the rectangle's part replaced. -/
theorem owns_store {m : Memref sig .tc .vmem s e} {r : Rect s} {w : r.shape.Idx → Val e} {hx : (m.access r).Stores Finset.univ}
    {hm : Finset.univ = Finset.univ ∨ ∀ a, r.stride a = 1}
    {k : PUnit → Prog (TpuEff nD τ sig Val Λ .tc) α} (X : s.Idx → Val e) :
    (owns (c : Thread nD τ) m fullShare X : sProp 𝕄)
      ⊢ iprop((owns (c : Thread nD τ) m fullShare (r.overlay X w) -∗ wp frame (wpE defs 𝒱 (c : Thread nD τ) none) E (k ⟨⟩) Q)
        -∗ wp frame (wpE defs 𝒱 (c : Thread nD τ) none) E (.op (.store m r w Finset.univ hx hm) k) Q) := by
  unfold owns
  iintro ⟨%f, %hf, H⟩ Hk
  iapply (wp_store 𝒱 (c : Thread nD τ) none E (m := m) (r := r) (f := f) (S := m.view.set) (View.set_slice_subset _ _)) $$ H
  iintro H
  iapply Hk
  iexists _; isplitr; swap; (· iexact H)
  ipureintro
  subst hf
  funext y
  by_cases hy : y ∈ r.set
  · rw [← Rect.map_emb_univ, Finset.mem_map] at hy
    obtain ⟨z, -, rfl⟩ := hy
    rw [Rect.overlay_emb]
    exact View.read_slice_write_emb (v := m.view) r f w (Finset.mem_univ z)
  · rw [Rect.overlay_of_not_mem _ _ _ hy]
    exact View.read_slice_write_of_not_mem (v := m.view) r f w Finset.univ (by rwa [Rect.map_emb_univ])

/-- A scalar load of a buffer that reads `X`. -/
theorem owns_smemLoad {m : Memref sig .tc .smem s e} {r : Rect s} {h1 : r.shape.numel = 1} {hp : e.packing = 1}
    {k : Val e → Prog (TpuEff nD τ sig Val Λ .tc) α} (X : s.Idx → Val e) :
    (owns (c : Thread nD τ) m fullShare X : sProp 𝕄)
      ⊢ iprop((owns (c : Thread nD τ) m fullShare X
            -∗ wp frame (wpE defs 𝒱 (c : Thread nD τ) none) E (k (X (r.emb (Shape.Idx.first (h1.symm ▸ Nat.one_pos))))) Q)
        -∗ wp frame (wpE defs 𝒱 (c : Thread nD τ) none) E (smemLoad (p := .tc) m r h1 hp >>= k) Q) :=
  owns_load (m := m) (r := r) (k := fun f => k (f (Shape.Idx.first (h1.symm ▸ Nat.one_pos)))) X

section Floats
variable {F : FTy → Type} [FloatOps F] {defs : Defs nD τ sig (Elt F) Λ}
variable {Q : α → sProp (MT nD τ sig Unit (Elt F) ℕ U ℕ)}

local notation "𝕄ₑ" => MT nD τ sig Unit (Elt F) ℕ U ℕ

/-- `ld`, then the rest of a program. -/
theorem owns_ld {m : Memref sig .tc .vmem s e} {r : Rect s} {h : 0 < r.shape.numel}
    {k : (r.shape.Idx → Elt F e) → Prog (TpuEff nD τ sig (Elt F) Λ .tc) α} (X : s.Idx → Elt F e) :
    (owns (c : Thread nD τ) m fullShare X : sProp 𝕄ₑ)
      ⊢ iprop((owns (c : Thread nD τ) m fullShare X -∗ wp frame (wpE defs 𝒱 (c : Thread nD τ) none) E (k fun y => X (r.emb y)) Q)
        -∗ wp frame (wpE defs 𝒱 (c : Thread nD τ) none) E (ld m r h >>= k) Q) :=
  owns_load X

/-- `st`, then the rest of a program. -/
theorem owns_st {m : Memref sig .tc .vmem s .f32} {r : Rect s} {h : 0 < r.shape.numel} {v : r.shape.Idx → Elt F .f32}
    {k : PUnit → Prog (TpuEff nD τ sig (Elt F) Λ .tc) α} (X : s.Idx → Elt F .f32) :
    (owns (c : Thread nD τ) m fullShare X : sProp 𝕄ₑ)
      ⊢ iprop((owns (c : Thread nD τ) m fullShare (r.overlay X v) -∗ wp frame (wpE defs 𝒱 (c : Thread nD τ) none) E (k ⟨⟩) Q)
        -∗ wp frame (wpE defs 𝒱 (c : Thread nD τ) none) E (st m r h v >>= k) Q) := by
  iintro H Hk
  iapply (owns_load (m := m) (r := r) X) $$ H
  iintro H
  iapply (owns_store (m := m) (r := r) X) $$ H
  iexact Hk

/-- A program's last `st`. -/
theorem owns_st_last {m : Memref sig .tc .vmem s .f32} {r : Rect s} {h : 0 < r.shape.numel} {v : r.shape.Idx → Elt F .f32}
    {Q : PUnit → sProp (MT nD τ sig Unit (Elt F) ℕ U ℕ)} (X : s.Idx → Elt F .f32) :
    (owns (c : Thread nD τ) m fullShare X : sProp 𝕄ₑ)
      ⊢ iprop((owns (c : Thread nD τ) m fullShare (r.overlay X v) -∗ Q ⟨⟩)
        -∗ wp frame (wpE defs 𝒱 (c : Thread nD τ) none) E (st (nD := nD) (τ := τ) (Λ := Λ) m r h v) Q) := by
  iintro H Hk
  iapply (owns_load (m := m) (r := r) X) $$ H
  iintro H
  iapply (owns_store (m := m) (r := r) X) $$ H
  iintro H
  iapply le_wp_ret
  iapply Hk
  iexact H

/-- A loop over column blocks, by an invariant. -/
theorem wp_blocks {σ : Type} (I : ℕ → σ → sProp 𝕄ₑ) {f : Fin 56 → σ → Prog (TpuEff nD τ sig (Elt F) Λ .tc) σ}
    (hf : ∀ (j : Fin 56) (a : σ), I j.val a ⊢ wp frame (wpE defs 𝒱 (c : Thread nD τ) none) E (f j a) (fun b => I (j.val + 1) b)) :
    ∀ (n lo : ℕ) (h : lo + n ≤ 56) (a : σ),
      I lo a ⊢ wp frame (wpE defs 𝒱 (c : Thread nD τ) none) E (blocks f n lo h a) (fun b => I (lo + n) b)
  | 0, lo, _, a => le_wp_ret _ _ _ a _
  | n + 1, lo, h, a => by
    show I lo a ⊢ wp frame _ E (f ⟨lo, by omega⟩ a >>= fun b => blocks f n (lo + 1) (by omega) b) _
    rw [wp_bind]
    refine (hf ⟨lo, by omega⟩ a).trans (wp_mono _ _ _ fun b => ?_)
    refine (wp_blocks I hf n (lo + 1) (by omega) b).trans (wp_mono _ _ _ fun b' => ?_)
    rw [show lo + 1 + n = lo + (n + 1) by omega]

end Floats

end LnBwd

end
-- ==== Proof.Kern.Tiles.lean ====
/-
  A buffer as a family of blocks.

  Every buffer the body writes block by block is cut into rectangles of one size that cover it once. Its contents are
  then a family of blocks (`Tiling.tile`): a load of rectangle `i` reads block `i`, and a store replaces that block.
-/
module

public import proofs.«01_k».proof.Proof.Kern.Body
public import Idealize.ShloMosaic.Lib.Pipeline.Kit
public import Idealize.ShloMosaic.Lib.ValueIdxCore

@[expose] public section

noncomputable section

namespace LnBwd

open Idealize.ShloMosaic Idealize.ShloMosaic.ValueIdx

/-- A cut of the shape `s` into rectangles of size `sz`, one for each `i`. -/
structure Tiling (s : Shape) (ι : Type) (sz : Fin s.rank → Nat) where
  off : ι → Fin s.rank → Nat
  inb : ∀ i a, off i a + sz a ≤ s.size a
  /-- The rectangle an index lies in … -/
  at_ : s.Idx → ι
  /-- … and its place there. -/
  loc : s.Idx → (⟨s.rank, sz⟩ : Shape).Idx
  at_emb : ∀ i y, at_ ((Rect.unit (off i) sz (inb i)).emb y) = i
  loc_emb : ∀ i y, loc ((Rect.unit (off i) sz (inb i)).emb y) = y
  emb_loc : ∀ p, (Rect.unit (off (at_ p)) sz (inb (at_ p))).emb (loc p) = p

namespace Tiling

variable {s : Shape} {ι : Type} {sz : Fin s.rank → Nat} {α : Type} (T : Tiling s ι sz)

/-- The rectangle of `i`. -/
abbrev rect (i : ι) : Rect s := Rect.unit (T.off i) sz (T.inb i)

/-- The contents whose block `i` is `f i`. -/
def tile (f : ι → (⟨s.rank, sz⟩ : Shape).Idx → α) : s.Idx → α := fun p => f (T.at_ p) (T.loc p)

theorem tile_emb (f : ι → (⟨s.rank, sz⟩ : Shape).Idx → α) (i : ι) : (fun y => T.tile f ((T.rect i).emb y)) = f i := by
  funext y
  unfold tile
  rw [T.at_emb, T.loc_emb]

/-- Any contents are those of their own blocks. -/
theorem tile_blocks (X : s.Idx → α) : T.tile (fun i y => X ((T.rect i).emb y)) = X := by
  funext p
  exact congrArg X (T.emb_loc p)

theorem overlay_tile [DecidableEq ι] (f : ι → (⟨s.rank, sz⟩ : Shape).Idx → α) (i : ι) (v : (⟨s.rank, sz⟩ : Shape).Idx → α) :
    (T.rect i).overlay (T.tile f) v = T.tile (Function.update f i v) := by
  funext p
  by_cases hp : T.at_ p = i
  · subst hp
    have h := Rect.overlay_emb (T.rect (T.at_ p)) (T.tile f) v (T.loc p)
    refine (congrArg ((T.rect (T.at_ p)).overlay (T.tile f) v) (T.emb_loc p)).symm.trans (h.trans ?_)
    unfold tile
    rw [Function.update_self]
  · rw [Rect.overlay_of_not_mem]
    · unfold tile; rw [Function.update_of_ne hp]
    · intro hm
      rw [← Rect.map_emb_univ, Finset.mem_map] at hm
      obtain ⟨z, -, rfl⟩ := hm
      exact hp (T.at_emb i z)

end Tiling

/-! ## The cuts -/

theorem inbScAll : ∀ (i : Fin 4 × Fin 128) (a : Fin 2), (![32 * i.1.val, i.2.val] : Fin 2 → Nat) a + S32x1.size a ≤ S128x128.size a := by
  decide

/-- A cut of an `m × n` array into `a × b` blocks at offsets `a u, b v`. -/
def grid2 (a b m n k l : Nat) (hm : m = k * a) (hn : n = l * b) (ha : 0 < a) (hb : 0 < b) (off : Fin k × Fin l → Fin 2 → Nat)
    (h0 : ∀ i, off i 0 = a * i.1.val) (h1 : ∀ i, off i 1 = b * i.2.val) :
    Tiling ⟨2, ![m, n]⟩ (Fin k × Fin l) (![a, b] : Fin 2 → Nat) where
  off := off
  inb i := by
    have e1 : a * i.1.val + a ≤ k * a := by have := i.1.isLt; rw [Nat.mul_comm k a, ← Nat.mul_succ]; exact Nat.mul_le_mul_left _ this
    have e2 : b * i.2.val + b ≤ l * b := by have := i.2.isLt; rw [Nat.mul_comm l b, ← Nat.mul_succ]; exact Nat.mul_le_mul_left _ this
    intro d
    match d with
    | ⟨0, _⟩ => subst hm; exact (congrArg (· + a) (h0 i)).trans_le e1
    | ⟨1, _⟩ => subst hn; exact (congrArg (· + b) (h1 i)).trans_le e2
  at_ p := (⟨(p 0).val / a, Nat.div_lt_of_lt_mul (by have := idx2_lt0 p; rwa [Nat.mul_comm, ← hm])⟩,
    ⟨(p 1).val / b, Nat.div_lt_of_lt_mul (by have := idx2_lt1 p; rwa [Nat.mul_comm, ← hn])⟩)
  loc p := ix2 ⟨(p 0).val % a, Nat.mod_lt _ ha⟩ ⟨(p 1).val % b, Nat.mod_lt _ hb⟩
  at_emb i y := by
    have l0 : (y 0).val < a := (y 0).isLt
    have l1 : (y 1).val < b := (y 1).isLt
    refine Prod.ext (Fin.ext ?_) (Fin.ext ?_)
    · show (off i 0 + 1 * (y 0).val) / a = i.1.val
      rw [h0, Nat.one_mul, Nat.mul_add_div ha, Nat.div_eq_of_lt l0, Nat.add_zero]
    · show (off i 1 + 1 * (y 1).val) / b = i.2.val
      rw [h1, Nat.one_mul, Nat.mul_add_div hb, Nat.div_eq_of_lt l1, Nat.add_zero]
  loc_emb i y := by
    have l0 : (y 0).val < a := (y 0).isLt
    have l1 : (y 1).val < b := (y 1).isLt
    funext d
    match d with
    | ⟨0, _⟩ =>
      refine Fin.ext ?_
      show (off i 0 + 1 * (y 0).val) % a = (y 0).val
      rw [h0, Nat.one_mul, Nat.mul_add_mod, Nat.mod_eq_of_lt l0]
    | ⟨1, _⟩ =>
      refine Fin.ext ?_
      show (off i 1 + 1 * (y 1).val) % b = (y 1).val
      rw [h1, Nat.one_mul, Nat.mul_add_mod, Nat.mod_eq_of_lt l1]
  emb_loc p := by
    funext d
    match d with
    | ⟨0, _⟩ =>
      refine Fin.ext ?_
      show off _ 0 + 1 * ((p 0).val % a) = (p 0).val
      rw [h0, Nat.one_mul]
      exact Nat.div_add_mod _ _
    | ⟨1, _⟩ =>
      refine Fin.ext ?_
      show off _ 1 + 1 * ((p 1).val % b) = (p 1).val
      rw [h1, Nat.one_mul]
      exact Nat.div_add_mod _ _

/-- A 128 × 7168 window: four row groups of 56 blocks. -/
def tRows := grid2 32 128 128 7168 4 56 rfl rfl (by decide) (by decide) (fun i => ![32 * i.1.val, 128 * i.2.val]) (fun _ => rfl) (fun _ => rfl)
/-- The 32-row scratch: 56 blocks. -/
def tCols := grid2 32 128 32 7168 1 56 rfl rfl (by decide) (by decide) (fun i => ![0, 128 * i.2.val])
  (fun i => by rw [Fin.fin_one_eq_zero i.1]; rfl) (fun _ => rfl)
/-- An accumulator: 56 blocks. -/
def tAcc := grid2 8 128 8 7168 1 56 rfl rfl (by decide) (by decide) (fun i => ![0, 128 * i.2.val])
  (fun i => by rw [Fin.fin_one_eq_zero i.1]; rfl) (fun _ => rfl)
/-- A 56 × 128 window: its rows. -/
def tRow := grid2 1 128 56 128 56 1 rfl rfl (by decide) (by decide) (fun i => ![i.1.val, 0])
  (fun i => (Nat.one_mul _).symm) (fun i => by rw [Fin.fin_one_eq_zero i.2]; rfl)
/-- The scale scratch: four groups of 128 columns. -/
def tSc := grid2 32 1 128 128 4 128 rfl rfl (by decide) (by decide) (fun i => ![32 * i.1.val, i.2.val])
  (fun _ => rfl) (fun i => (Nat.one_mul _).symm)

theorem rRows_eq (s : Fin 4) (j : Fin 56) : rRows s j = tRows.rect (s, j) := rfl
theorem rSc_eq (s : Fin 4) (j : Fin 56) : rSc s j = tSc.rect (s, j.castLE (by decide)) := rfl
theorem rCols_eq (j : Fin 56) : rCols j = tCols.rect (0, j) := rfl
theorem rAcc_eq (j : Fin 56) : rAcc j = tAcc.rect (0, j) := rfl
theorem rRow_eq (j : Fin 56) : rRow j = tRow.rect (j, 0) := rfl

end LnBwd

end
-- ==== Proof.Kern.Values.lean ====
/-
  What the body computes, from what its windows hold: the blocks of centred x and of g, the row sums, the blocks of dx,
  and what a grid point does to the two accumulators.
-/
module

public import proofs.«01_k».proof.Proof.Kern.Tiles

@[expose] public section

noncomputable section

namespace LnBwd

open Idealize.ShloMosaic

variable (F : FTy → Type) [FloatOps F]

/-- The contents of the input windows at a grid point. -/
structure Ins where
  cnt : Vec F S2 .f32
  x : Vec F S128x7168 .bf16
  dy : Vec F S128x7168 .bf16
  mean : Vec F S1x1x128 .f32
  rstd : Vec F S1x1x128 .f32
  pg : Vec F S1x2x128 .f32
  pgx : Vec F S1x2x128 .f32
  gamma : Vec F S56x128 .f32

variable {F}

namespace Ins

variable (W : Ins F)

def cntAt (k : Fin 2) : F .f32 := W.cnt ((rCnt k).emb (Shape.Idx.first (by decide : 0 < S1.numel)))
def n : F .f32 := Scalar.addf (Scalar.addf (W.cntAt 0) (Scalar.ofBits .f32 0x45E00000#32)) (W.cntAt 1)
def r : FVec F S128x128 .f32 := column (tokRow fun y => W.rstd (rTok.emb y))
def m : FVec F S128x128 .f32 := column (tokRow fun y => W.mean (rTok.emb y))
def pgc : FVec F S128x128 .f32 := column (peerRow (fun y => W.pg ((rPeer 0).emb y)) (fun y => W.pg ((rPeer 1).emb y)))
def pgxc : FVec F S128x128 .f32 := column (peerRow (fun y => W.pgx ((rPeer 0).emb y)) (fun y => W.pgx ((rPeer 1).emb y)))
/-- What the prologue returns. -/
def head : Head F := (W.n, W.r, W.m, W.pgc, W.pgxc)

variable (s : Fin 4) (j : Fin 56)

/-- Block `j` of row group `s` of dy, of centred x, of dy times rstd, and of g. -/
def dyB : FVec F S32x128 .f32 := wide fun y => W.dy ((rRows s j).emb y)
def xcB : FVec F S32x128 .f32 := centre (group s W.m) (wide fun y => W.x ((rRows s j).emb y))
def qB : FVec F S32x128 .f32 := mulf (W.dyB s j) (group s W.r)
def gB : FVec F S32x128 .f32 := mulf (W.qB s j) (gammaRow fun y => W.gamma ((rRow j).emb y))
def gxB : FVec F S32x128 .f32 := mulf (W.gB s j) (W.xcB s j)

end Ins

/-- The sum of the first `k` blocks. -/
def sumTo (f : Fin 56 → FVec F S32x128 .f32) : ℕ → FVec F S32x128 .f32
  | 0 => zeros32
  | k + 1 => if h : k < 56 then addf (sumTo f k) (f ⟨k, h⟩) else sumTo f k

theorem sumTo_succ (f : Fin 56 → FVec F S32x128 .f32) (j : Fin 56) : sumTo f (j.val + 1) = addf (sumTo f j.val) (f j) := by
  rw [sumTo, dif_pos j.isLt]

namespace Ins

variable (W : Ins F) (s : Fin 4) (j : Fin 56)

def c1 : FVec F S32x128 .f32 := coeff1 W.n (group s W.r) (group s W.pgc) (sumTo (W.gB s) 56)
def c2 : FVec F S32x128 .f32 := coeff2 W.n (group s W.r) (group s W.pgxc) (sumTo (W.gxB s) 56)
/-- Block `j` of row group `s` of dx. -/
def dxB : FVec F S32x128 .f32 := dxOf (W.c1 s) (W.c2 s) (same32 (W.gB s j)) (same32 (W.xcB s j))

/-- An accumulator block once row group `s` is added, and once the whole grid point is. -/
def gamGroup (a : FVec F S8x128 .f32) : FVec F S8x128 .f32 := same8 (accum a (mulf (W.qB s j) (W.xcB s j)))
def betGroup (a : FVec F S8x128 .f32) : FVec F S8x128 .f32 := same8 (accum a (W.dyB s j))
def gamStep (a : FVec F S8x128 .f32) : FVec F S8x128 .f32 := W.gamGroup 3 j (W.gamGroup 2 j (W.gamGroup 1 j (W.gamGroup 0 j a)))
def betStep (a : FVec F S8x128 .f32) : FVec F S8x128 .f32 := W.betGroup 3 j (W.betGroup 2 j (W.betGroup 1 j (W.betGroup 0 j a)))

/-- The codes window after the grid point. -/
def codes : Vec F S128x7168 .fp8e5m2 := tRows.tile fun i => codesOf (W.dxB i.1 i.2)
/-- The scale scratch's blocks: the first 56 columns hold scales, the rest `z`. -/
def scBlocks (z : Fin 4 × Fin 128 → FVec F S32x1 .f32) (i : Fin 4 × Fin 128) : FVec F S32x1 .f32 :=
  if h : i.2.val < 56 then scalesOf (W.dxB i.1 ⟨i.2.val, h⟩) else z i
/-- The scales window after the grid point. -/
def scales : Vec F S1x56x128 .f32 := scaleRows (tSc.tile (W.scBlocks fun _ _ => Scalar.ofBits .f32 0x00000000#32))

end Ins

end LnBwd

end
-- ==== Proof.Kern.Run.lean ====
/-
  What one grid point of the body does to its buffers.
-/
module

public import proofs.«01_k».proof.Proof.Kern.Rules
public import proofs.«01_k».proof.Proof.Kern.Values

@[expose] public section

noncomputable section

namespace LnBwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}
variable {U : Type} [URA U]
variable {defs : Defs nD τ sig (Elt F) Λ} {𝒱 : Variants} {c : Dev nD} {E : Set ℕ}
variable {α : Type}

local notation "𝕄" => MT nD τ sig Unit (Elt F) ℕ U ℕ

variable (c) in
/-- The buffer `m` reads `X`. -/
abbrev has {cs : CoreSpace} {s : Shape} {e : EltTy} (m : Memref sig .tc cs s e) (X : s.Idx → Elt F e) : sProp 𝕄 :=
  owns (c : Thread nD τ) m fullShare X

/-- Running a program, then the rest. -/
theorem wp_then {β : Type} {P : sProp 𝕄} {p : Prog (TpuEff nD τ sig (Elt F) Λ .tc) β} {Q : β → sProp 𝕄}
    {k : β → Prog (TpuEff nD τ sig (Elt F) Λ .tc) α} {Q' : α → sProp 𝕄}
    (h : P ⊢ wp frame (wpE defs 𝒱 (c : Thread nD τ) none) E p Q) :
    P ⊢ iprop((∀ b, Q b -∗ wp frame (wpE defs 𝒱 (c : Thread nD τ) none) E (k b) Q')
      -∗ wp frame (wpE defs 𝒱 (c : Thread nD τ) none) E (p >>= k) Q') := by
  rw [wp_bind]
  iintro H Hk
  iapply wp_wand_r
  isplitl [H]
  · iapply h $$ H
  · iexact Hk

/-! ## The first pass -/

variable (R : Refs sig) (W : Ins F) (s : Fin 4)

/-- Blocks below `k` are new, the rest old. -/
def Upto {β : Type} (k : ℕ) (new old f : Fin 1 × Fin 56 → β) : Prop := ∀ i, f i = if i.2.val < k then new i else old i

theorem Upto.step {β : Type} {new old f : Fin 1 × Fin 56 → β} {j : Fin 56} (h : Upto j.val new old f) :
    Upto (j.val + 1) new old (Function.update f (0, j) (new (0, j))) := by
  intro i
  by_cases hi : i = (0, j)
  · subst hi; rw [Function.update_self, if_pos (Nat.lt_succ_self _)]
  · rw [Function.update_of_ne hi, h i]
    have hne : i.2.val ≠ j.val := fun e => hi (Prod.ext (Subsingleton.elim _ _) (Fin.ext e))
    by_cases hl : i.2.val < j.val
    · rw [if_pos hl, if_pos (by omega)]
    · rw [if_neg hl, if_neg (by omega)]

theorem Upto.zero {β : Type} {new old : Fin 1 × Fin 56 → β} : Upto 0 new old old := fun _ => (if_neg (Nat.not_lt_zero _)).symm

theorem Upto.all {β : Type} {new old f : Fin 1 × Fin 56 → β} (h : Upto 56 new old f) : f = new :=
  funext fun i => (h i).trans (if_pos i.2.isLt)

theorem Upto.at {β : Type} {new old f : Fin 1 × Fin 56 → β} {j : Fin 56} (h : Upto j.val new old f) : f (0, j) = old (0, j) :=
  (h (0, j)).trans (if_neg (Nat.lt_irrefl _))

variable (c) in
/-- A tiled buffer whose blocks satisfy `φ`. -/
def tiled {ι : Type} {s : Shape} {sz : Fin s.rank → Nat} {cs : CoreSpace} {e : EltTy} (T : Tiling s ι sz) (m : Memref sig .tc cs s e)
    (φ : (ι → (⟨s.rank, sz⟩ : Shape).Idx → Elt F e) → Prop) : sProp 𝕄 :=
  iprop(∃ f, ⌜φ f⌝ ∗ has c m (T.tile f))

/-- Any contents are a family of blocks. -/
theorem tiled_of {ι : Type} {s : Shape} {sz : Fin s.rank → Nat} {cs : CoreSpace} {e : EltTy} (T : Tiling s ι sz) (m : Memref sig .tc cs s e)
    (φ : (ι → (⟨s.rank, sz⟩ : Shape).Idx → Elt F e) → Prop) (hφ : ∀ f, φ f) (X : s.Idx → Elt F e) :
    (has c m X : sProp 𝕄) ⊢ tiled c T m φ := by
  unfold tiled
  iintro H
  iexists (fun i y => X ((T.rect i).emb y))
  isplitr
  · ipureintro; exact hφ _
  · rw [T.tile_blocks]; iexact H

/-- After a store to one block. -/
theorem tiled_store {ι : Type} [DecidableEq ι] {s : Shape} {sz : Fin s.rank → Nat} {cs : CoreSpace} {e : EltTy} {T : Tiling s ι sz}
    {m : Memref sig .tc cs s e} {φ : (ι → (⟨s.rank, sz⟩ : Shape).Idx → Elt F e) → Prop} {f : ι → (⟨s.rank, sz⟩ : Shape).Idx → Elt F e}
    {i : ι} {v : (⟨s.rank, sz⟩ : Shape).Idx → Elt F e} (h : φ (Function.update f i v)) :
    (has c m ((T.rect i).overlay (T.tile f) v) : sProp 𝕄) ⊢ tiled c T m φ := by
  unfold tiled
  rw [T.overlay_tile]
  iintro H
  iexists _
  isplitr; swap
  · iexact H
  · ipureintro; exact h

theorem store_cols {m : Memref sig .tc .vmem S32x7168 .f32} {φ : (Fin 1 × Fin 56 → FVec F S32x128 .f32) → Prop} {f : Fin 1 × Fin 56 → FVec F S32x128 .f32} {j : Fin 56}
    {v : FVec F S32x128 .f32} (h : φ (Function.update f (0, j) v)) :
    (has c m ((rCols j).overlay (tCols.tile f) v) : sProp 𝕄) ⊢ tiled c tCols m φ := by
  have := @tiled_store F _ nD τ sig U _ c _ _ _ _ _ _ tCols m φ f (0, j) v h
  exact this
theorem store_acc {m : Memref sig .tc .vmem S8x7168 .f32} {φ : (Fin 1 × Fin 56 → FVec F S8x128 .f32) → Prop} {f : Fin 1 × Fin 56 → FVec F S8x128 .f32} {j : Fin 56}
    {v : FVec F S8x128 .f32} (h : φ (Function.update f (0, j) v)) :
    (has c m ((rAcc j).overlay (tAcc.tile f) v) : sProp 𝕄) ⊢ tiled c tAcc m φ := by
  have := @tiled_store F _ nD τ sig U _ c _ _ _ _ _ _ tAcc m φ f (0, j) v h
  exact this
theorem store_rows {m : Memref sig .tc .vmem S128x7168 .fp8e5m2} {φ : (Fin 4 × Fin 56 → FVec F S32x128 .fp8e5m2) → Prop} {f : Fin 4 × Fin 56 → FVec F S32x128 .fp8e5m2} {s : Fin 4} {j : Fin 56}
    {v : FVec F S32x128 .fp8e5m2} (h : φ (Function.update f (s, j) v)) :
    (has c m ((rRows s j).overlay (tRows.tile f) v) : sProp 𝕄) ⊢ tiled c tRows m φ := by
  have := @tiled_store F _ nD τ sig U _ c _ _ _ _ _ _ tRows m φ f (s, j) v h
  exact this
theorem store_sc {m : Memref sig .tc .vmem S128x128 .f32} {φ : (Fin 4 × Fin 128 → FVec F S32x1 .f32) → Prop} {f : Fin 4 × Fin 128 → FVec F S32x1 .f32} {s : Fin 4} {j : Fin 56}
    {v : FVec F S32x1 .f32} (h : φ (Function.update f (s, j.castLE (by decide)) v)) :
    (has c m ((rSc s j).overlay (tSc.tile f) v) : sProp 𝕄) ⊢ tiled c tSc m φ := by
  have := @tiled_store F _ nD τ sig U _ c _ _ _ _ _ _ tSc m φ f (s, j.castLE (by decide)) v h
  exact this
theorem store_row {m : Memref sig .tc .vmem S56x128 .f32} {φ : (Fin 56 × Fin 1 → FVec F S1x128 .f32) → Prop} {f : Fin 56 × Fin 1 → FVec F S1x128 .f32} {j : Fin 56}
    {v : FVec F S1x128 .f32} (h : φ (Function.update f (j, 0) v)) :
    (has c m ((rRow j).overlay (tRow.tile f) v) : sProp 𝕄) ⊢ tiled c tRow m φ := by
  have := @tiled_store F _ nD τ sig U _ c _ _ _ _ _ _ tRow m φ f (j, 0) v h
  exact this

variable (c) in
/-- The windows a pass reads. -/
def reads : sProp 𝕄 := iprop(has c R.x W.x ∗ has c R.dy W.dy ∗ has c R.gamma W.gamma)

variable (c) in
/-- Before block `k` of the first pass over row group `s`, the row sums `a` so far. -/
def inv1 (A B : Fin 1 × Fin 56 → FVec F S8x128 .f32) (X₀ G₀ : Fin 1 × Fin 56 → FVec F S32x128 .f32) (k : ℕ)
    (a : FVec F S32x128 .f32 × FVec F S32x128 .f32) : sProp 𝕄 :=
  iprop(⌜a = (sumTo (W.gB s) k, sumTo (W.gxB s) k)⌝ ∗ reads c R W
    ∗ tiled c tCols R.xc (Upto k (fun i => same32 (W.xcB s i.2)) X₀) ∗ tiled c tCols R.g (Upto k (fun i => same32 (W.gB s i.2)) G₀)
    ∗ tiled c tAcc R.dgam (Upto k (fun i => W.gamGroup s i.2 (A i)) A) ∗ tiled c tAcc R.dbet (Upto k (fun i => W.betGroup s i.2 (B i)) B))

theorem pass1_wp (A B : Fin 1 × Fin 56 → FVec F S8x128 .f32) (X₀ G₀ : Fin 1 × Fin 56 → FVec F S32x128 .f32) (j : Fin 56)
    (a : FVec F S32x128 .f32 × FVec F S32x128 .f32) :
    (inv1 c R W s A B X₀ G₀ j.val a : sProp 𝕄)
      ⊢ wp frame (wpE defs 𝒱 (c : Thread nD τ) none) E (pass1 R s (group s W.r) (group s W.m) j a)
          (fun b => inv1 c R W s A B X₀ G₀ (j.val + 1) b) := by
  obtain ⟨s1, s2⟩ := a
  show _ ⊢ wp frame _ E (pass1 R s (group s W.r) (group s W.m) j (s1, s2)) fun b => iprop(_ ∗ _ ∗ _ ∗ _ ∗ _ ∗ _)
  unfold pass1
  conv_lhs => unfold inv1 reads tiled
  iintro ⟨%ha, ⟨Hx, Hdy, Hga⟩, ⟨%fx, %hx, Hxc⟩, ⟨%fg, %hg, Hg⟩, ⟨%fa, %hfa, Ha⟩, ⟨%fb, %hfb, Hb⟩⟩
  iapply (owns_ld (m := R.dy) W.dy) $$ Hdy
  iintro Hdy
  iapply (owns_ld (m := R.x) W.x) $$ Hx
  iintro Hx
  iapply (owns_ld (m := R.gamma) W.gamma) $$ Hga
  iintro Hga
  iapply (owns_st (m := R.xc) (tCols.tile fx)) $$ Hxc
  iintro Hxc
  iapply (owns_st (m := R.g) (tCols.tile fg)) $$ Hg
  iintro Hg
  iapply (owns_ld (m := R.dgam) (tAcc.tile fa)) $$ Ha
  iintro Ha
  iapply (owns_st (m := R.dgam) (tAcc.tile fa)) $$ Ha
  iintro Ha
  iapply (owns_ld (m := R.dbet) (tAcc.tile fb)) $$ Hb
  iintro Hb
  iapply (owns_st (m := R.dbet) (tAcc.tile fb)) $$ Hb
  iintro Hb
  iapply le_wp_ret
  have ea : (fun y => tAcc.tile fa ((rAcc j).emb y)) = fa (0, j) := tAcc.tile_emb fa (0, j)
  have eb : (fun y => tAcc.tile fb ((rAcc j).emb y)) = fb (0, j) := tAcc.tile_emb fb (0, j)
  rw [ea, eb]
  isplitr
  · ipureintro
    rw [sumTo_succ, sumTo_succ]
    obtain ⟨rfl, rfl⟩ := Prod.mk.inj ha
    rfl
  isplitl [Hx Hdy Hga]
  · unfold reads
    isplitl [Hx]; · iexact Hx
    isplitl [Hdy]; · iexact Hdy
    iexact Hga
  isplitl [Hxc]
  · iapply (store_cols ?_) $$ Hxc
    exact hx.step
  isplitl [Hg]
  · iapply (store_cols ?_) $$ Hg
    exact hg.step
  isplitl [Ha]
  · iapply (store_acc ?_) $$ Ha
    exact hfa.at ▸ hfa.step
  · iapply (store_acc ?_) $$ Hb
    exact hfb.at ▸ hfb.step

/-! ## The second pass -/

/-- The codes of the first `N` blocks, counted row group by row group, are in place. -/
def DoneC (N : ℕ) (f : Fin 4 × Fin 56 → FVec F S32x128 .fp8e5m2) : Prop :=
  ∀ (s : Fin 4) (j : Fin 56), 56 * s.val + j.val < N → f (s, j) = codesOf (W.dxB s j)
/-- So are their scales. -/
def DoneS (N : ℕ) (f : Fin 4 × Fin 128 → FVec F S32x1 .f32) : Prop :=
  ∀ (s : Fin 4) (j : Fin 56), 56 * s.val + j.val < N → f (s, j.castLE (by decide)) = scalesOf (W.dxB s j)

variable {W s} in
theorem DoneC.step {f : Fin 4 × Fin 56 → FVec F S32x128 .fp8e5m2} {j : Fin 56} (h : DoneC W (56 * s.val + j.val) f) :
    DoneC W (56 * s.val + (j.val + 1)) (Function.update f (s, j) (codesOf (W.dxB s j))) := by
  intro s' j' hl
  by_cases hi : (s', j') = (s, j)
  · obtain ⟨rfl, rfl⟩ := Prod.mk.inj hi; rw [Function.update_self]
  · rw [Function.update_of_ne hi]
    refine h s' j' ?_
    have : 56 * s'.val + j'.val ≠ 56 * s.val + j.val := fun e => hi (Prod.ext (Fin.ext (by show s'.val = s.val; omega)) (Fin.ext (by show j'.val = j.val; omega)))
    omega

variable {W s} in
theorem DoneS.step {f : Fin 4 × Fin 128 → FVec F S32x1 .f32} {j : Fin 56} (h : DoneS W (56 * s.val + j.val) f) :
    DoneS W (56 * s.val + (j.val + 1)) (Function.update f (s, j.castLE (by decide)) (scalesOf (W.dxB s j))) := by
  intro s' j' hl
  by_cases hi : (s', j') = (s, j)
  · obtain ⟨rfl, rfl⟩ := Prod.mk.inj hi; rw [Function.update_self]
  · have hne : 56 * s'.val + j'.val ≠ 56 * s.val + j.val := fun e => hi (Prod.ext (Fin.ext (by show s'.val = s.val; omega)) (Fin.ext (by show j'.val = j.val; omega)))
    rw [Function.update_of_ne fun e => hi (by
      obtain ⟨rfl, e2⟩ := Prod.mk.inj e
      have e3 := congrArg Fin.val e2
      exact Prod.ext rfl (Fin.ext e3))]
    exact h s' j' (by omega)

variable (c) in
/-- Before block `k` of the second pass. -/
def inv2 (k : ℕ) (_ : PUnit.{1}) : sProp 𝕄 :=
  iprop(has c R.xc (tCols.tile fun i => same32 (W.xcB s i.2)) ∗ has c R.g (tCols.tile fun i => same32 (W.gB s i.2))
    ∗ tiled c tRows R.codes (DoneC W (56 * s.val + k)) ∗ tiled c tSc R.sc (DoneS W (56 * s.val + k)))

theorem pass2_wp (j : Fin 56) (a : PUnit.{1}) :
    (inv2 c R W s j.val a : sProp 𝕄)
      ⊢ wp frame (wpE defs 𝒱 (c : Thread nD τ) none) E (pass2 R s (W.c1 s) (W.c2 s) j) (fun b => inv2 c R W s (j.val + 1) b) := by
  show _ ⊢ wp frame _ E _ fun b => iprop(_ ∗ _ ∗ _ ∗ _)
  unfold pass2
  conv_lhs => unfold inv2 tiled
  iintro ⟨Hxc, Hg, ⟨%fc, %hc, Hc⟩, ⟨%fs, %hs, Hs⟩⟩
  iapply (owns_ld (m := R.g) (tCols.tile fun i => same32 (W.gB s i.2))) $$ Hg
  iintro Hg
  iapply (owns_ld (m := R.xc) (tCols.tile fun i => same32 (W.xcB s i.2))) $$ Hxc
  iintro Hxc
  have eg : (fun y => tCols.tile (fun i => same32 (W.gB s i.2)) ((rCols j).emb y)) = same32 (W.gB s j) :=
    tCols.tile_emb (fun i => same32 (W.gB s i.2)) (0, j)
  have ex : (fun y => tCols.tile (fun i => same32 (W.xcB s i.2)) ((rCols j).emb y)) = same32 (W.xcB s j) :=
    tCols.tile_emb (fun i => same32 (W.xcB s i.2)) (0, j)
  rw [eg, ex]
  iapply (owns_ld (m := R.codes) (tRows.tile fc)) $$ Hc
  iintro Hc
  iapply (owns_store (m := R.codes) (tRows.tile fc)) $$ Hc
  iintro Hc
  iapply (owns_st_last (m := R.sc) (h := posSc) (tSc.tile fs)) $$ Hs
  iintro Hs
  isplitl [Hxc]; · iexact Hxc
  isplitl [Hg]; · iexact Hg
  isplitl [Hc]
  · iapply (store_rows ?_) $$ Hc
    exact hc.step
  · iapply (store_sc ?_) $$ Hs
    exact hs.step

/-! ## A row group -/

/-- An accumulator after row group `s`. -/
def gamAfter (A : Fin 1 × Fin 56 → FVec F S8x128 .f32) : Fin 1 × Fin 56 → FVec F S8x128 .f32 := fun i => W.gamGroup s i.2 (A i)
def betAfter (A : Fin 1 × Fin 56 → FVec F S8x128 .f32) : Fin 1 × Fin 56 → FVec F S8x128 .f32 := fun i => W.betGroup s i.2 (A i)

variable (c) in
/-- Before row group `s`, the accumulators at `A` and `B`. -/
def inv (N : ℕ) (A B : Fin 1 × Fin 56 → FVec F S8x128 .f32) : sProp 𝕄 :=
  iprop(reads c R W ∗ (∃ X, has c R.xc X) ∗ (∃ X, has c R.g X) ∗ has c R.dgam (tAcc.tile A) ∗ has c R.dbet (tAcc.tile B)
    ∗ tiled c tRows R.codes (DoneC W N) ∗ tiled c tSc R.sc (DoneS W N))

theorem rowGroup_wp (A B : Fin 1 × Fin 56 → FVec F S8x128 .f32) :
    (inv c R W (56 * s.val) A B : sProp 𝕄)
      ⊢ wp frame (wpE defs 𝒱 (c : Thread nD τ) none) E (rowGroup R W.n W.r W.m W.pgc W.pgxc s)
          (fun _ => inv c R W (56 * (s.val + 1)) (gamAfter W s A) (betAfter W s B)) := by
  unfold rowGroup
  conv_lhs => unfold inv
  iintro ⟨Hr, ⟨%X, Hx⟩, ⟨%G, Hg⟩, Ha, Hb, Hc, Hs⟩
  have first := wp_then (U := U) (α := PUnit) (Q' := fun _ => inv c R W (56 * (s.val + 1)) (gamAfter W s A) (betAfter W s B))
    (k := fun x => match x with
      | (s1, s2) => blocks (fun j _ => pass2 R s (coeff1 W.n (group s W.r) (group s W.pgc) s1) (coeff2 W.n (group s W.r) (group s W.pgxc) s2) j) 56 0 (by decide) ⟨⟩)
    (wp_blocks (U := U) (defs := defs) (𝒱 := 𝒱) (c := c) (E := E) (inv1 c R W s A B (fun i y => X ((tCols.rect i).emb y)) (fun i y => G ((tCols.rect i).emb y)))
      (pass1_wp R W s A B _ _) 56 0 (by decide) (zeros32, zeros32))
  iapply first $$ [Hr Hx Hg Ha Hb]
  · unfold inv1 tiled
    isplitr; · ipureintro; rfl
    isplitl [Hr]; · iexact Hr
    isplitl [Hx]
    · iexists _; isplitr; swap
      · rw [← tCols.tile_blocks X]; iexact Hx
      · ipureintro; exact Upto.zero
    isplitl [Hg]
    · iexists _; isplitr; swap
      · rw [← tCols.tile_blocks G]; iexact Hg
      · ipureintro; exact Upto.zero
    isplitl [Ha]
    · iexists A; isplitr; swap
      · iexact Ha
      · ipureintro; exact Upto.zero
    · iexists B; isplitr; swap
      · iexact Hb
      · ipureintro; exact Upto.zero
  iintro %b Hb
  obtain ⟨s1, s2⟩ := b
  conv_lhs => unfold inv1 tiled
  icases Hb with ⟨%he, Hr, ⟨%fx, %hx, Hx⟩, ⟨%fg, %hg, Hg⟩, ⟨%fa, %ha, Ha⟩, ⟨%fb, %hb, Hb⟩⟩
  obtain ⟨rfl, rfl⟩ := Prod.mk.inj he
  obtain rfl := hx.all
  obtain rfl := hg.all
  obtain rfl := ha.all
  obtain rfl := hb.all
  have second := wp_blocks (U := U) (defs := defs) (𝒱 := 𝒱) (c := c) (E := E) (inv2 c R W s) (pass2_wp R W s) 56 0 (by decide) ⟨⟩
  iapply wp_wand_r
  isplitl [Hx Hg Hc Hs]
  · iapply second
    unfold inv2 tiled
    rw [Nat.add_zero]
    isplitl [Hx]; · iexact Hx
    isplitl [Hg]; · iexact Hg
    isplitl [Hc]; · iexact Hc
    iexact Hs
  · iintro %b H
    conv_lhs => unfold inv2
    icases H with ⟨Hx, Hg, Hc, Hs⟩
    unfold inv
    rw [show 56 * (s.val + 1) = 56 * s.val + (0 + 56) by omega]
    isplitl [Hr]; · iexact Hr
    isplitl [Hx]; · iexists _; iexact Hx
    isplitl [Hg]; · iexists _; iexact Hg
    isplitl [Ha]; · iexact Ha
    isplitl [Hb]; · iexact Hb
    isplitl [Hc]
    · iexact Hc
    · iexact Hs

end LnBwd

end
-- ==== Proof.Kern.Point.lean ====
/-
  A whole grid point: the prologue, the four row groups, and the epilogue.
-/
module

public import proofs.«01_k».proof.Proof.Kern.Run

@[expose] public section

noncomputable section

namespace LnBwd

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}
variable {U : Type} [URA U]
variable {defs : Defs nD τ sig (Elt F) Λ} {𝒱 : Variants} {c : Dev nD} {E : Set ℕ}
variable {α : Type}

local notation "𝕄" => MT nD τ sig Unit (Elt F) ℕ U ℕ

/-! ## Whole-array stores and loads -/

/-- A rectangle at offset zero embeds each index as itself; storing through it replaces the contents. -/
theorem overlay_all {s : Shape} {β : Type} {r : Rect s} (X v : s.Idx → β) (w : r.shape.Idx → β) (e : ∀ p, ∃ q, r.emb q = p ∧ w q = v p) :
    r.overlay X w = v := by
  funext p
  obtain ⟨q, rfl, hq⟩ := e p
  rw [Rect.overlay_emb, hq]

theorem emb_acc (p : S8x7168.Idx) : rAccAll.emb p = p := by
  funext d; match d with
  | ⟨0, _⟩ => exact Fin.ext (show 0 + 1 * (p 0).val = (p 0).val by omega)
  | ⟨1, _⟩ => exact Fin.ext (show 0 + 1 * (p 1).val = (p 1).val by omega)
theorem emb_sc (p : S128x128.Idx) : rScAll.emb p = p := by
  funext d; match d with
  | ⟨0, _⟩ => exact Fin.ext (show 0 + 1 * (p 0).val = (p 0).val by omega)
  | ⟨1, _⟩ => exact Fin.ext (show 0 + 1 * (p 1).val = (p 1).val by omega)
theorem emb_out (p : S1x56x128.Idx) : rOut.emb p = p := by
  funext d; match d with
  | ⟨0, _⟩ => exact Fin.ext (show 0 + 1 * (p 0).val = (p 0).val by omega)
  | ⟨1, _⟩ => exact Fin.ext (show 0 + 1 * (p 1).val = (p 1).val by omega)
  | ⟨2, _⟩ => exact Fin.ext (show 0 + 1 * (p 2).val = (p 2).val by omega)

theorem posAcc : 0 < rAccAll.shape.numel := by decide

/-- A program run under a condition, then the rest. -/
theorem wp_branch {P : sProp 𝕄} {d : Prop} [Decidable d] {p : Prog (TpuEff nD τ sig (Elt F) Λ .tc) PUnit} {Q : PUnit → sProp 𝕄}
    {k : PUnit → Prog (TpuEff nD τ sig (Elt F) Λ .tc) α} {Q' : α → sProp 𝕄}
    (h : P ⊢ wp frame (wpE defs 𝒱 (c : Thread nD τ) none) E (if _h : d then p else pure ⟨⟩) Q) :
    P ⊢ iprop((∀ b, Q b -∗ wp frame (wpE defs 𝒱 (c : Thread nD τ) none) E (k b) Q')
      -∗ wp frame (wpE defs 𝒱 (c : Thread nD τ) none) E (if _h : d then p >>= k else k ⟨⟩) Q') := by
  have := wp_then (U := U) (k := k) (Q' := Q') h
  by_cases hd : d
  · rw [dif_pos hd] at this ⊢; exact this
  · rw [dif_neg hd] at this ⊢; exact this

/-! ## The accumulators at the start -/

/-- An accumulator at zero. -/
def zeroFam : Fin 1 × Fin 56 → FVec F S8x128 .f32 := fun i y => zeros8 ((tAcc.rect i).emb y)

variable (R : Refs sig) (W : Ins F)

theorem start_wp (X Y : Vec F S8x7168 .f32) :
    iprop(has c R.dgam X ∗ has c R.dbet Y : sProp 𝕄)
      ⊢ wp frame (wpE defs 𝒱 (c : Thread nD τ) none) E (start R)
          (fun _ => iprop(has c R.dgam (tAcc.tile zeroFam) ∗ has c R.dbet (tAcc.tile zeroFam))) := by
  unfold start
  iintro ⟨Ha, Hb⟩
  iapply (owns_st (m := R.dgam) X) $$ Ha
  iintro Ha
  iapply (owns_st_last (m := R.dbet) (h := posAcc) Y) $$ Hb
  iintro Hb
  have eX : rAccAll.overlay X zeros8 = tAcc.tile (zeroFam (F := F)) :=
    (overlay_all X zeros8 _ fun p => ⟨p, emb_acc p, rfl⟩).trans (tAcc.tile_blocks _).symm
  have eY : rAccAll.overlay Y zeros8 = tAcc.tile (zeroFam (F := F)) :=
    (overlay_all Y zeros8 _ fun p => ⟨p, emb_acc p, rfl⟩).trans (tAcc.tile_blocks _).symm
  rw [← eX]
  isplitl [Ha]
  · iexact Ha
  · rw [eX, ← eY]; iexact Hb

/-- The accumulator a grid point starts from: zero at the first, what the one before left at the others. -/
def startFrom (i : BitVec 32) (A : Fin 1 × Fin 56 → FVec F S8x128 .f32) : Fin 1 × Fin 56 → FVec F S8x128 .f32 :=
  if isPoint i 0#32 = 1#1 then zeroFam else A

variable (c) in
/-- The small windows the prologue reads. -/
def heads : sProp 𝕄 :=
  iprop(has c R.cnt W.cnt ∗ has c R.rstd W.rstd ∗ has c R.mean W.mean ∗ has c R.pg W.pg ∗ has c R.pgx W.pgx)

theorem prologue_wp (i : BitVec 32) (A B : Fin 1 × Fin 56 → FVec F S8x128 .f32) :
    iprop(heads c R W ∗ has c R.dgam (tAcc.tile A) ∗ has c R.dbet (tAcc.tile B) : sProp 𝕄)
      ⊢ wp frame (wpE defs 𝒱 (c : Thread nD τ) none) E (prologue R i)
          (fun b => iprop(⌜b = W.head⌝ ∗ heads c R W ∗ has c R.dgam (tAcc.tile (startFrom i A)) ∗ has c R.dbet (tAcc.tile (startFrom i B)))) := by
  unfold prologue
  dsimp only
  conv_lhs => unfold heads
  iintro ⟨⟨Hc, Hr, Hm, Hp, Hq⟩, Ha, Hb⟩
  iapply (owns_smemLoad (m := R.cnt) W.cnt) $$ Hc
  iintro Hc
  iapply (owns_smemLoad (m := R.cnt) W.cnt) $$ Hc
  iintro Hc
  have mid : iprop(has c R.dgam (tAcc.tile A) ∗ has c R.dbet (tAcc.tile B) : sProp 𝕄)
      ⊢ wp frame (wpE defs 𝒱 (c : Thread nD τ) none) E (if _h : isPoint i 0#32 = 1#1 then start R else pure ⟨⟩)
          (fun _ => iprop(has c R.dgam (tAcc.tile (startFrom i A)) ∗ has c R.dbet (tAcc.tile (startFrom i B)))) := by
    unfold startFrom
    by_cases h : isPoint i 0#32 = 1#1
    · rw [dif_pos h, if_pos h, if_pos h]
      exact start_wp R _ _
    · rw [dif_neg h, if_neg h, if_neg h]
      iintro H
      iapply le_wp_ret
      iexact H
  iapply (wp_branch (U := U) mid) $$ [Ha Hb]
  · isplitl [Ha]; · iexact Ha
    iexact Hb
  iintro %u ⟨Ha, Hb⟩
  iapply (owns_ld (m := R.rstd) W.rstd) $$ Hr
  iintro Hr
  iapply (owns_ld (m := R.mean) W.mean) $$ Hm
  iintro Hm
  iapply (owns_ld (m := R.pg) W.pg) $$ Hp
  iintro Hp
  iapply (owns_ld (m := R.pg) W.pg) $$ Hp
  iintro Hp
  iapply (owns_ld (m := R.pgx) W.pgx) $$ Hq
  iintro Hq
  iapply (owns_ld (m := R.pgx) W.pgx) $$ Hq
  iintro Hq
  iapply le_wp_ret
  isplitr; · ipureintro; rfl
  isplitl [Hc Hr Hm Hp Hq]
  · unfold heads
    isplitl [Hc]; · iexact Hc
    isplitl [Hr]; · iexact Hr
    isplitl [Hm]; · iexact Hm
    isplitl [Hp]; · iexact Hp
    iexact Hq
  isplitl [Ha]; · iexact Ha
  iexact Hb

/-! ## The epilogue -/

/-- A result window once its accumulator is summed. -/
def colSums (A : Fin 1 × Fin 56 → FVec F S8x128 .f32) : Vec F S56x128 .f32 := tRow.tile fun i => colSum (A (0, i.1))

/-- The rows below `k` of a result window are in place. -/
def DoneR (A : Fin 1 × Fin 56 → FVec F S8x128 .f32) (k : ℕ) (f : Fin 56 × Fin 1 → FVec F S1x128 .f32) : Prop :=
  ∀ i : Fin 56 × Fin 1, i.1.val < k → f i = colSum (A (0, i.1))

theorem DoneR.step {A : Fin 1 × Fin 56 → FVec F S8x128 .f32} {f : Fin 56 × Fin 1 → FVec F S1x128 .f32} {j : Fin 56} (h : DoneR A j.val f) :
    DoneR A (j.val + 1) (Function.update f (j, 0) (colSum (A (0, j)))) := by
  intro i hl
  by_cases hi : i = (j, 0)
  · subst hi; rw [Function.update_self]
  · rw [Function.update_of_ne hi]
    have : i.1.val ≠ j.val := fun e => hi (Prod.ext (Fin.ext e) (Subsingleton.elim _ _))
    exact h i (by omega)

variable (c) in
/-- Before row `k` of the two sums. -/
def inv3 (A B : Fin 1 × Fin 56 → FVec F S8x128 .f32) (k : ℕ) (_ : PUnit.{1}) : sProp 𝕄 :=
  iprop(has c R.dgam (tAcc.tile A) ∗ has c R.dbet (tAcc.tile B) ∗ tiled c tRow R.dgamma (DoneR A k) ∗ tiled c tRow R.dbeta (DoneR B k))

theorem finish_wp (A B : Fin 1 × Fin 56 → FVec F S8x128 .f32) (j : Fin 56) (a : PUnit.{1}) :
    (inv3 c R A B j.val a : sProp 𝕄)
      ⊢ wp frame (wpE defs 𝒱 (c : Thread nD τ) none) E (finish R j) (fun b => inv3 c R A B (j.val + 1) b) := by
  show _ ⊢ wp frame _ E _ fun b => iprop(_ ∗ _ ∗ _ ∗ _)
  unfold finish
  conv_lhs => unfold inv3 tiled
  iintro ⟨Ha, Hb, ⟨%fc, %hc, Hc⟩, ⟨%fs, %hs, Hs⟩⟩
  have eg : (fun y => tAcc.tile A ((rAcc j).emb y)) = A (0, j) := tAcc.tile_emb A (0, j)
  have eb : (fun y => tAcc.tile B ((rAcc j).emb y)) = B (0, j) := tAcc.tile_emb B (0, j)
  iapply (owns_ld (m := R.dgam) (tAcc.tile A)) $$ Ha
  iintro Ha
  iapply (owns_st (m := R.dgamma) (tRow.tile fc)) $$ Hc
  iintro Hc
  iapply (owns_ld (m := R.dbet) (tAcc.tile B)) $$ Hb
  iintro Hb
  iapply (owns_st_last (m := R.dbeta) (h := pos1) (tRow.tile fs)) $$ Hs
  iintro Hs
  rw [eg, eb]
  isplitl [Ha]; · iexact Ha
  isplitl [Hb]; · iexact Hb
  isplitl [Hc]
  · iapply (store_row ?_) $$ Hc
    exact hc.step
  · iapply (store_row ?_) $$ Hs
    exact hs.step

/-- The scales window depends on the scratch's first 56 columns alone. -/
theorem scaleRows_congr {X Y : Vec F S128x128 .f32} (h : ∀ p : S128x128.Idx, (p 1).val < 56 → X p = Y p) : scaleRows X = scaleRows Y := by
  unfold scaleRows
  congr 1
  funext q
  refine h _ ?_
  show 0 + (q 0).val < 56
  rw [Nat.zero_add]
  exact idx2_lt0 q

theorem scales_of_done {f : Fin 4 × Fin 128 → FVec F S32x1 .f32} (h : DoneS W 224 f) : scaleRows (tSc.tile f) = W.scales := by
  unfold Ins.scales
  refine scaleRows_congr fun p hp => ?_
  have h1 : (tSc.at_ p).2.val = (p 1).val := Nat.div_one _
  unfold Tiling.tile Ins.scBlocks
  rw [dif_pos (h1.trans_lt hp)]
  have := h (tSc.at_ p).1 ⟨(tSc.at_ p).2.val, h1.trans_lt hp⟩ (by have := (tSc.at_ p).1.isLt; show 56 * (tSc.at_ p).1.val + (tSc.at_ p).2.val < 224; omega)
  exact congrFun this _

theorem codes_of_done {f : Fin 4 × Fin 56 → FVec F S32x128 .fp8e5m2} (h : DoneC W 224 f) : tRows.tile f = W.codes := by
  unfold Ins.codes
  congr 1
  funext i
  exact h i.1 i.2 (by have := i.1.isLt; have := i.2.isLt; omega)

/-- A result window after a grid point: written at the last one, untouched at the others. -/
def resultAt (i : BitVec 32) (A : Fin 1 × Fin 56 → FVec F S8x128 .f32) (D : Vec F S56x128 .f32) : Vec F S56x128 .f32 :=
  if isPoint i 11#32 = 1#1 then colSums A else D

theorem epilogue_wp (i : BitVec 32) (A B : Fin 1 × Fin 56 → FVec F S8x128 .f32) (Z : Vec F S1x56x128 .f32) (D G : Vec F S56x128 .f32) :
    iprop(tiled c tSc R.sc (DoneS W 224) ∗ has c R.scales Z ∗ has c R.dgamma D ∗ has c R.dbeta G
        ∗ has c R.dgam (tAcc.tile A) ∗ has c R.dbet (tAcc.tile B) : sProp 𝕄)
      ⊢ wp frame (wpE defs 𝒱 (c : Thread nD τ) none) E (epilogue R i)
          (fun _ => iprop((∃ X, has c R.sc X) ∗ has c R.scales W.scales ∗ has c R.dgamma (resultAt i A D) ∗ has c R.dbeta (resultAt i B G)
            ∗ has c R.dgam (tAcc.tile A) ∗ has c R.dbet (tAcc.tile B))) := by
  unfold epilogue
  dsimp only
  conv_lhs => unfold tiled
  iintro ⟨⟨%fs, %hs, Hs⟩, Hz, Hd, Hg, Ha, Hb⟩
  iapply (owns_ld (m := R.sc) (tSc.tile fs)) $$ Hs
  iintro Hs
  iapply (owns_st (m := R.scales) Z) $$ Hz
  iintro Hz
  have eZ : rOut.overlay Z (scaleRows (fun y => tSc.tile fs (rScAll.emb y))) = W.scales :=
    (congrArg (fun v => rOut.overlay Z (scaleRows v)) (funext fun y => congrArg (tSc.tile fs) (emb_sc y))).trans
      ((congrArg (rOut.overlay Z) (scales_of_done W hs)).trans (overlay_all Z _ _ fun p => ⟨p, emb_out p, rfl⟩))
  have last : iprop(has c R.dgam (tAcc.tile A) ∗ has c R.dbet (tAcc.tile B) ∗ has c R.dgamma D ∗ has c R.dbeta G : sProp 𝕄)
      ⊢ wp frame (wpE defs 𝒱 (c : Thread nD τ) none) E
          (if _h : isPoint i 11#32 = 1#1 then blocks (fun j _ => finish R j) 56 0 (by decide) ⟨⟩ else pure ⟨⟩)
          (fun _ => iprop(has c R.dgam (tAcc.tile A) ∗ has c R.dbet (tAcc.tile B) ∗ has c R.dgamma (resultAt i A D) ∗ has c R.dbeta (resultAt i B G))) := by
    unfold resultAt
    by_cases h : isPoint i 11#32 = 1#1
    · rw [dif_pos h, if_pos h, if_pos h]
      have loop := wp_blocks (U := U) (defs := defs) (𝒱 := 𝒱) (c := c) (E := E) (inv3 c R A B) (finish_wp R A B) 56 0 (by decide) ⟨⟩
      iintro ⟨Ha, Hb, Hd, Hg⟩
      iapply wp_wand_r
      isplitl [Ha Hb Hd Hg]
      · iapply loop
        unfold inv3
        isplitl [Ha]; · iexact Ha
        isplitl [Hb]; · iexact Hb
        isplitl [Hd]
        · iapply (tiled_of tRow R.dgamma _ ?_ D) $$ Hd
          exact fun f i hi => absurd hi (Nat.not_lt_zero _)
        · iapply (tiled_of tRow R.dbeta _ ?_ G) $$ Hg
          exact fun f i hi => absurd hi (Nat.not_lt_zero _)
      · iintro %b H
        conv_lhs => unfold inv3 tiled
        icases H with ⟨Ha, Hb, ⟨%f, %hf, Hd⟩, ⟨%g, %hg, Hg⟩⟩
        have ef : colSums A = tRow.tile f := congrArg tRow.tile (funext fun i => (hf i i.1.isLt).symm)
        have eg : colSums B = tRow.tile g := congrArg tRow.tile (funext fun i => (hg i i.1.isLt).symm)
        rw [ef, eg]
        isplitl [Ha]; · iexact Ha
        isplitl [Hb]; · iexact Hb
        isplitl [Hd]; · iexact Hd
        iexact Hg
    · rw [dif_neg h, if_neg h, if_neg h]
      iintro H
      iapply le_wp_ret
      iexact H
  iapply (wp_branch (U := U) last) $$ [Ha Hb Hd Hg]
  · isplitl [Ha]; · iexact Ha
    isplitl [Hb]; · iexact Hb
    isplitl [Hd]; · iexact Hd
    iexact Hg
  iintro %u ⟨Ha, Hb, Hd, Hg⟩
  iapply le_wp_ret
  isplitl [Hs]; · iexists _; iexact Hs
  isplitl [Hz]; · rw [← eZ]; iexact Hz
  isplitl [Hd]; · iexact Hd
  isplitl [Hg]; · iexact Hg
  isplitl [Ha]; · iexact Ha
  iexact Hb

/-! ## The grid point -/

/-- An accumulator after a grid point. -/
def gamPoint (i : BitVec 32) (A : Fin 1 × Fin 56 → FVec F S8x128 .f32) : Fin 1 × Fin 56 → FVec F S8x128 .f32 :=
  fun k => W.gamStep k.2 (startFrom i A k)
def betPoint (i : BitVec 32) (A : Fin 1 × Fin 56 → FVec F S8x128 .f32) : Fin 1 × Fin 56 → FVec F S8x128 .f32 :=
  fun k => W.betStep k.2 (startFrom i A k)

theorem groups_wp (i : BitVec 32) (A B : Fin 1 × Fin 56 → FVec F S8x128 .f32) (Z : Vec F S1x56x128 .f32) (D G : Vec F S56x128 .f32) :
    iprop(inv c R W 0 A B ∗ has c R.scales Z ∗ has c R.dgamma D ∗ has c R.dbeta G : sProp 𝕄)
      ⊢ wp frame (wpE defs 𝒱 (c : Thread nD τ) none) E (groups R i W.n W.r W.m W.pgc W.pgxc)
          (fun _ => iprop(reads c R W ∗ (∃ X, has c R.xc X) ∗ (∃ X, has c R.g X) ∗ (∃ X, has c R.sc X)
            ∗ has c R.codes W.codes ∗ has c R.scales W.scales
            ∗ has c R.dgamma (resultAt i (fun k => W.gamStep k.2 (A k)) D) ∗ has c R.dbeta (resultAt i (fun k => W.betStep k.2 (B k)) G)
            ∗ has c R.dgam (tAcc.tile fun k => W.gamStep k.2 (A k)) ∗ has c R.dbet (tAcc.tile fun k => W.betStep k.2 (B k)))) := by
  unfold groups
  iintro ⟨H, Hz, Hd, Hg⟩
  iapply (wp_then (U := U) (rowGroup_wp R W 0 A B)) $$ H
  iintro %u H
  iapply (wp_then (U := U) (rowGroup_wp R W 1 (gamAfter W 0 A) (betAfter W 0 B))) $$ H
  iintro %u H
  iapply (wp_then (U := U) (rowGroup_wp R W 2 (gamAfter W 1 (gamAfter W 0 A)) (betAfter W 1 (betAfter W 0 B)))) $$ H
  iintro %u H
  iapply (wp_then (U := U) (rowGroup_wp R W 3 (gamAfter W 2 (gamAfter W 1 (gamAfter W 0 A))) (betAfter W 2 (betAfter W 1 (betAfter W 0 B))))) $$ H
  iintro %u H
  have fin := epilogue_wp (U := U) (defs := defs) (𝒱 := 𝒱) (c := c) (E := E) R W i (fun k => W.gamStep k.2 (A k)) (fun k => W.betStep k.2 (B k)) Z D G
  conv_lhs => unfold inv tiled
  icases H with ⟨Hr, Hx, Hgs, Ha, Hb, ⟨%fc, %hc, Hc⟩, Hs⟩
  have ec := codes_of_done W hc
  iapply wp_wand_r
  isplitl [Hs Hz Hd Hg Ha Hb]
  · iapply fin
    unfold tiled
    isplitl [Hs]; · iexact Hs
    isplitl [Hz]; · iexact Hz
    isplitl [Hd]; · iexact Hd
    isplitl [Hg]; · iexact Hg
    isplitl [Ha]; · iexact Ha
    iexact Hb
  · iintro %b ⟨Hs, Hz, Hd, Hg, Ha, Hb⟩
    isplitl [Hr]; · iexact Hr
    isplitl [Hx]; · iexact Hx
    isplitl [Hgs]; · iexact Hgs
    isplitl [Hs]; · iexact Hs
    isplitl [Hc]; · rw [← ec]; iexact Hc
    isplitl [Hz]; · iexact Hz
    isplitl [Hd]; · iexact Hd
    isplitl [Hg]; · iexact Hg
    isplitl [Ha]; · iexact Ha
    iexact Hb

/-- A grid point, from any contents of the result windows and the scratch. -/
theorem body_wp (i : BitVec 32) (A B : Fin 1 × Fin 56 → FVec F S8x128 .f32) (D G : Vec F S56x128 .f32) :
    iprop(heads c R W ∗ reads c R W ∗ (∃ X, has c R.codes X) ∗ (∃ X, has c R.scales X) ∗ has c R.dgamma D ∗ has c R.dbeta G
        ∗ (∃ X, has c R.xc X) ∗ (∃ X, has c R.g X) ∗ (∃ X, has c R.sc X) ∗ has c R.dgam (tAcc.tile A) ∗ has c R.dbet (tAcc.tile B) : sProp 𝕄)
      ⊢ wp frame (wpE defs 𝒱 (c : Thread nD τ) none) E (body R i)
          (fun _ => iprop(heads c R W ∗ reads c R W ∗ has c R.codes W.codes ∗ has c R.scales W.scales
            ∗ has c R.dgamma (resultAt i (gamPoint W i A) D) ∗ has c R.dbeta (resultAt i (betPoint W i B) G)
            ∗ (∃ X, has c R.xc X) ∗ (∃ X, has c R.g X) ∗ (∃ X, has c R.sc X)
            ∗ has c R.dgam (tAcc.tile (gamPoint W i A)) ∗ has c R.dbet (tAcc.tile (betPoint W i B)))) := by
  unfold body
  iintro ⟨Hh, Hr, ⟨%C, Hc⟩, ⟨%Z, Hz⟩, Hd, Hg, Hx, Hgs, ⟨%S, Hs⟩, Ha, Hb⟩
  iapply (wp_then (U := U) (prologue_wp R W i A B)) $$ [Hh Ha Hb]
  · isplitl [Hh]; · iexact Hh
    isplitl [Ha]; · iexact Ha
    iexact Hb
  iintro %b ⟨%hb, Hh, Ha, Hb⟩
  subst hb
  have rest := groups_wp (U := U) (defs := defs) (𝒱 := 𝒱) (c := c) (E := E) R W i (startFrom i A) (startFrom i B) Z D G
  iapply wp_wand_r
  isplitl [Hr Hc Hz Hd Hg Hx Hgs Hs Ha Hb]
  · iapply rest
    unfold inv
    isplitl [Hr Hc Hx Hgs Hs Ha Hb]
    · isplitl [Hr]; · iexact Hr
      isplitl [Hx]; · iexact Hx
      isplitl [Hgs]; · iexact Hgs
      isplitl [Ha]; · iexact Ha
      isplitl [Hb]; · iexact Hb
      isplitl [Hc]
      · iapply (tiled_of tRows R.codes _ ?_ C) $$ Hc
        exact fun f s j h => absurd h (Nat.not_lt_zero _)
      · iapply (tiled_of tSc R.sc _ ?_ S) $$ Hs
        exact fun f s j h => absurd h (Nat.not_lt_zero _)
    isplitl [Hz]; · iexact Hz
    isplitl [Hd]; · iexact Hd
    iexact Hg
  · iintro %b ⟨Hr, Hx, Hgs, Hs, Hc, Hz, Hd, Hg, Ha, Hb⟩
    isplitl [Hh]; · iexact Hh
    isplitl [Hr]; · iexact Hr
    isplitl [Hc]; · iexact Hc
    isplitl [Hz]; · iexact Hz
    isplitl [Hd]; · iexact Hd
    isplitl [Hg]; · iexact Hg
    isplitl [Hx]; · iexact Hx
    isplitl [Hgs]; · iexact Hgs
    isplitl [Hs]; · iexact Hs
    isplitl [Ha]; · iexact Ha
    iexact Hb

end LnBwd

end
-- ==== Proof.Kern.DatKernel.lean ====
/- The run of `Kernel`: what its pipeline holds point by point, its body obligation, and its final arrays. -/
module

public import proofs.«01_k».proof.Proof.Gen.Kernel.Frame
public import proofs.«01_k».proof.Proof.Kern.Point

@[expose] public section

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The buffers of the body at point `t`. -/
abbrev refs (t : Fin cfg0.N) : LnBwd.Refs sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), hstage0_8 ((cfg0.slots t 8).cast nbuf0_8), win0_9.stage (cfg0.slots t 9),
    win0_10.stage (cfg0.slots t 10), win0_11.stage (cfg0.slots t 11),
    Memref.whole cc0_scratch0, Memref.whole cc0_scratch1, Memref.whole cc0_scratch2, Memref.whole cc0_scratch3, Memref.whole cc0_scratch4⟩

/-- The point's number, as the body sees it. -/
abbrev num (t : Fin cfg0.N) : BitVec 32 := BitVec.ofNat 32 (grid0.coords t 0).val

theorem first_iff (t : Fin cfg0.N) : LnBwd.isPoint (num t) 0#32 = 1#1 ↔ t.val = 0 := by
  rcases fin_N0 t with h | h | h | h | h | h | h | h | h | h | h | h <;> subst h <;> decide
theorem last_iff (t : Fin cfg0.N) : LnBwd.isPoint (num t) 11#32 = 1#1 ↔ t.val = 11 := by
  rcases fin_N0 t with h | h | h | h | h | h | h | h | h | h | h | h <;> subst h <;> decide

/-- What the input windows hold at point `t`. -/
def ins (c : Dev nD) (t : Fin cfg0.N) : LnBwd.Ins F :=
  ⟨iblk m c 0 t, iblk m c 1 t, iblk m c 2 t, iblk m c 3 t, iblk m c 4 t, iblk m c 5 t, iblk m c 6 t, iblk m c 7 t⟩

/-- The two accumulators before point `k`. -/
def gam (c : Dev nD) : ℕ → Fin 1 × Fin 56 → FVec F LnBwd.S8x128 .f32
  | 0 => LnBwd.zeroFam
  | k + 1 => if h : k < cfg0.N then fun i => (ins m c ⟨k, h⟩).gamStep i.2 (gam c k i) else gam c k
def bet (c : Dev nD) : ℕ → Fin 1 × Fin 56 → FVec F LnBwd.S8x128 .f32
  | 0 => LnBwd.zeroFam
  | k + 1 => if h : k < cfg0.N then fun i => (ins m c ⟨k, h⟩).betStep i.2 (bet c k i) else bet c k

/-- A point leaves an accumulator at the next step's contents: at point 0 from any, at the others from this step's. -/
theorem gamPoint_eq (c : Dev nD) (t : Fin cfg0.N) (A : Fin 1 × Fin 56 → FVec F LnBwd.S8x128 .f32) (hA : t.val ≠ 0 → A = gam m c t.val) :
    LnBwd.gamPoint (ins m c t) (num t) A = gam m c (t.val + 1) := by
  rw [gam, dif_pos t.isLt]
  unfold LnBwd.gamPoint LnBwd.startFrom
  by_cases h : t.val = 0
  · rw [if_pos ((first_iff t).mpr h), show gam m c t.val = LnBwd.zeroFam by rw [h]; rfl]
  · rw [if_neg fun e => h ((first_iff t).mp e), hA h]
theorem betPoint_eq (c : Dev nD) (t : Fin cfg0.N) (A : Fin 1 × Fin 56 → FVec F LnBwd.S8x128 .f32) (hA : t.val ≠ 0 → A = bet m c t.val) :
    LnBwd.betPoint (ins m c t) (num t) A = bet m c (t.val + 1) := by
  rw [bet, dif_pos t.isLt]
  unfold LnBwd.betPoint LnBwd.startFrom
  by_cases h : t.val = 0
  · rw [if_pos ((first_iff t).mpr h), show bet m c t.val = LnBwd.zeroFam by rw [h]; rfl]
  · rw [if_neg fun e => h ((first_iff t).mp e), hA h]

/-- What the windows hold after point `t`; the two sums' windows are written at the last point alone. -/
def after (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => iblk m c 5 t
  | ⟨6, _⟩ => fun t => iblk m c 6 t
  | ⟨7, _⟩ => fun t => iblk m c 7 t
  | ⟨8, _⟩ => fun t => (ins m c t).codes
  | ⟨9, _⟩ => fun t => (ins m c t).scales
  | ⟨10, _⟩ => fun _ => LnBwd.colSums (gam m c 12)
  | ⟨11, _⟩ => fun _ => LnBwd.colSums (bet m c 12)

/-- The scratch before point `k`: three buffers at anything, the accumulators at their sums so far (at anything before point 0). -/
def Φc (c : Dev nD) (k : ℕ) : sProp 𝕄 :=
  iprop((∃ X, LnBwd.has c (Memref.whole cc0_scratch0) X) ∗ (∃ X, LnBwd.has c (Memref.whole cc0_scratch1) X) ∗ (∃ X, LnBwd.has c (Memref.whole cc0_scratch2) X)
    ∗ (∃ A, ⌜k ≠ 0 → A = gam m c k⌝ ∗ LnBwd.has c (Memref.whole cc0_scratch3) (LnBwd.tAcc.tile A))
    ∗ (∃ A, ⌜k ≠ 0 → A = bet m c k⌝ ∗ LnBwd.has c (Memref.whole cc0_scratch4) (LnBwd.tAcc.tile A))
    ∗ ∃ r, prngReg c r)

/-- The pipeline's proof data. -/
def dats (_ : Fin 1) (c : Dev nD) : Dat τ (Elt F) Unit ℕ (UR sig nD τ) ℕ cfg0 c where
  A w := V m c (Pipeline.arrRef spec0 w)
  after := after m c
  Φ t := Φc m c t.val
  q _ := fullShare
  owed _ := 0

/-- Window `w`'s buffer after the body at point `t`, as the library states it. -/
abbrev leaves (c : Dev nD) (t : Fin cfg0.N) (w : Fin cfg0.W) : sProp 𝕄 :=
  match cfg0.idle w (cfg0.grid.coords t) with
  | true =>
    match (cfg0.win w).flush t with
    | false => iprop(∃ d, owns c ((cfg0.win w).stage (cfg0.slots t w)) fullShare ((dats m 0 c).before w t d))
    | true =>
      match cfg0.loose w with
      | true => iprop(∃ d, owns c ((cfg0.win w).stage (cfg0.slots t w)) fullShare ((cfg0.win w).fill (cfg0.grid.coords t) d ((cfg0.win w).cut (cfg0.grid.coords t) ((dats m 0 c).after w t))))
      | false => owns c ((cfg0.win w).stage (cfg0.slots t w)) fullShare ((dats m 0 c).after w t)
  | false =>
    match cfg0.loose w with
    | true => iprop(∃ d, owns c ((cfg0.win w).stage (cfg0.slots t w)) fullShare ((cfg0.win w).fill (cfg0.grid.coords t) d ((cfg0.win w).cut (cfg0.grid.coords t) ((dats m 0 c).after w t))))
    | false => owns c ((cfg0.win w).stage (cfg0.slots t w)) fullShare ((dats m 0 c).after w t)

theorem idle_10 (t : Fin cfg0.N) : cfg0.idle 10 (cfg0.grid.coords t) = !(LnBwd.isPoint (num t) 11#32 == 1#1) := rfl
theorem idle_11 (t : Fin cfg0.N) : cfg0.idle 11 (cfg0.grid.coords t) = !(LnBwd.isPoint (num t) 11#32 == 1#1) := rfl

theorem last_val (t : Fin cfg0.N) : t.val % 12 = 11 ↔ t.val = 11 := by
  have : t.val < 12 := lt_of_lt_of_eq t.isLt N_0
  omega

theorem ofSome {α : Type} {P : α → sProp 𝕄} (d : α) : P d ⊢ iprop(∃ d, P d) := by
  iintro H; iexists d; iexact H
theorem bit_cases (b : BitVec 1) : b = 0#1 ∨ b = 1#1 := by revert b; decide

/-- A sum's window: written at the last point, left alone at the others. -/
theorem leaves_10 (c : Dev nD) (t : Fin cfg0.N) (d) :
    (owns c (win0_10.stage (cfg0.slots t 10)) fullShare (LnBwd.resultAt (num t) (gam m c (t.val + 1)) ((dats m 0 c).before 10 t d)) : sProp 𝕄) ⊢ leaves m c t 10 := by
  unfold leaves LnBwd.resultAt
  rw [idle_10]
  by_cases h : t.val = 11
  · rw [if_pos ((last_iff t).mpr h), (last_iff t).mpr h, h]
    exact BIBase.Entails.rfl
  · rw [if_neg fun e => h ((last_iff t).mp e), show LnBwd.isPoint (num t) 11#32 = 0#1 from ((bit_cases _).resolve_right fun e => h ((last_iff t).mp e)),
      show (cfg0.win 10).flush t = false from Bool.eq_false_iff.mpr fun e => h ((last_val t).mp ((flush0_10 t).mp e))]
    exact ofSome (P := fun d => owns c (win0_10.stage (cfg0.slots t 10)) fullShare ((dats m 0 c).before 10 t d)) d
theorem leaves_11 (c : Dev nD) (t : Fin cfg0.N) (d) :
    (owns c (win0_11.stage (cfg0.slots t 11)) fullShare (LnBwd.resultAt (num t) (bet m c (t.val + 1)) ((dats m 0 c).before 11 t d)) : sProp 𝕄) ⊢ leaves m c t 11 := by
  unfold leaves LnBwd.resultAt
  rw [idle_11]
  by_cases h : t.val = 11
  · rw [if_pos ((last_iff t).mpr h), (last_iff t).mpr h, h]
    exact BIBase.Entails.rfl
  · rw [if_neg fun e => h ((last_iff t).mp e), show LnBwd.isPoint (num t) 11#32 = 0#1 from ((bit_cases _).resolve_right fun e => h ((last_iff t).mp e)),
      show (cfg0.win 11).flush t = false from Bool.eq_false_iff.mpr fun e => h ((last_val t).mp ((flush0_11 t).mp e))]
    exact ofSome (P := fun d => owns c (win0_11.stage (cfg0.slots t 11)) fullShare ((dats m 0 c).before 11 t d)) d

set_option maxHeartbeats 2000000 in
/-- The body at point `t`, given that the printed body is the one with loops. -/
theorem body_at (he : ∀ t : Fin cfg0.N, bodyAt0 (F := F) t = LnBwd.body (refs t) (num t)) (c : Dev nD) (t : Fin cfg0.N) :
    iprop((dats m 0 c).Φ t.castSucc ∗ (dats m 0 c).owesAt () t.castSucc
        ∗ (∃ d, owns c (win0_0.stage (cfg0.slots t 0)) fullShare ((dats m 0 c).before 0 t d))
        ∗ (∃ d, owns c (win0_1.stage (cfg0.slots t 1)) fullShare ((dats m 0 c).before 1 t d))
        ∗ (∃ d, owns c (win0_2.stage (cfg0.slots t 2)) fullShare ((dats m 0 c).before 2 t d))
        ∗ (∃ d, owns c (win0_3.stage (cfg0.slots t 3)) fullShare ((dats m 0 c).before 3 t d))
        ∗ (∃ d, owns c (win0_4.stage (cfg0.slots t 4)) fullShare ((dats m 0 c).before 4 t d))
        ∗ (∃ d, owns c (win0_5.stage (cfg0.slots t 5)) fullShare ((dats m 0 c).before 5 t d))
        ∗ (∃ d, owns c (win0_6.stage (cfg0.slots t 6)) fullShare ((dats m 0 c).before 6 t d))
        ∗ (∃ d, owns c (win0_7.stage (cfg0.slots t 7)) fullShare ((dats m 0 c).before 7 t d))
        ∗ (∃ d, owns c (win0_8.stage (cfg0.slots t 8)) fullShare ((dats m 0 c).before 8 t d))
        ∗ (∃ d, owns c (win0_9.stage (cfg0.slots t 9)) fullShare ((dats m 0 c).before 9 t d))
        ∗ (∃ d, owns c (win0_10.stage (cfg0.slots t 10)) fullShare ((dats m 0 c).before 10 t d))
        ∗ (∃ d, owns c (win0_11.stage (cfg0.slots t 11)) fullShare ((dats m 0 c).before 11 t d)) : sProp 𝕄)
      ⊢ wp frame (wpE defs₀ 𝒱₀ (c : Thread nD τ) none) Set.univ (bodyAt0 (F := F) t) fun _ =>
        iprop((dats m 0 c).Φ t.succ ∗ (dats m 0 c).owesAt () t.succ
          ∗ owns c (win0_0.stage (cfg0.slots t 0)) fullShare (iblk m c 0 t)
          ∗ owns c (win0_1.stage (cfg0.slots t 1)) fullShare (iblk m c 1 t)
          ∗ owns c (win0_2.stage (cfg0.slots t 2)) fullShare (iblk m c 2 t)
          ∗ owns c (win0_3.stage (cfg0.slots t 3)) fullShare (iblk m c 3 t)
          ∗ owns c (win0_4.stage (cfg0.slots t 4)) fullShare (iblk m c 4 t)
          ∗ owns c (win0_5.stage (cfg0.slots t 5)) fullShare (iblk m c 5 t)
          ∗ owns c (win0_6.stage (cfg0.slots t 6)) fullShare (iblk m c 6 t)
          ∗ owns c (win0_7.stage (cfg0.slots t 7)) fullShare (iblk m c 7 t)
          ∗ owns c (win0_8.stage (cfg0.slots t 8)) fullShare (ins m c t).codes
          ∗ owns c (win0_9.stage (cfg0.slots t 9)) fullShare (ins m c t).scales
          ∗ leaves m c t 10 ∗ leaves m c t 11) := by
  rw [he, show (dats m 0 c).Φ t.castSucc = Φc m c t.val from rfl, show (dats m 0 c).Φ t.succ = Φc m c (t.val + 1) from rfl,
    show (dats m 0 c).owesAt () t.succ = (dats m 0 c).owesAt () t.castSucc from rfl]
  unfold Φc
  iintro ⟨⟨Hx, Hg, Hs, ⟨%A, %hA, Ha⟩, ⟨%B, %hB, Hb⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7]
  have run := LnBwd.body_wp (U := UR sig nD τ) (defs := defs₀ (F := F)) (𝒱 := 𝒱₀) (c := c) (E := Set.univ) (refs t) (ins m c t) (num t) A B
    ((dats m 0 c).before 10 t d10) ((dats m 0 c).before 11 t d11)
  rw [gamPoint_eq m c t A hA, betPoint_eq m c t B hB] at run
  iapply wp_wand_r
  isplitl [Hx Hg Hs Ha Hb H0 H1 H2 H3 H4 H5 H6 H7 H8 H9 H10 H11]
  · iapply run
    unfold LnBwd.heads LnBwd.reads
    isplitl [H0 H3 H4 H5 H6]
    · isplitl [H0]; · iexact H0
      isplitl [H4]; · iexact H4
      isplitl [H3]; · iexact H3
      isplitl [H5]; · iexact H5
      iexact H6
    isplitl [H1 H2 H7]
    · isplitl [H1]; · iexact H1
      isplitl [H2]; · iexact H2
      iexact H7
    isplitl [H8]; · iexists _; iexact H8
    isplitl [H9]; · iexists _; iexact H9
    isplitl [H10]; · iexact H10
    isplitl [H11]; · iexact H11
    isplitl [Hx]; · iexact Hx
    isplitl [Hg]; · iexact Hg
    isplitl [Hs]; · iexact Hs
    isplitl [Ha]; · iexact Ha
    iexact Hb
  · iintro %u H
    conv_lhs => unfold LnBwd.heads LnBwd.reads
    icases H with ⟨⟨H0, H4, H3, H5, H6⟩, ⟨H1, H2, H7⟩, H8, H9, H10, H11, Hx, Hg, Hs, Ha, Hb⟩
    isplitl [Hx Hg Hs Ha Hb Hr]
    · isplitl [Hx]; · iexact Hx
      isplitl [Hg]; · iexact Hg
      isplitl [Hs]; · iexact Hs
      isplitl [Ha]
      · iexists _; isplitr; swap
        · iexact Ha
        · ipureintro; exact fun _ => rfl
      isplitl [Hb]
      · iexists _; isplitr; swap
        · iexact Hb
        · ipureintro; exact fun _ => rfl
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (leaves_10 m c t d10) $$ H10
    · iapply (leaves_11 m c t d11) $$ H11

/-- The library's body obligation. -/
theorem body_obligation (he : ∀ t : Fin cfg0.N, bodyAt0 (F := F) t = LnBwd.body (refs t) (num t)) (c : Dev nD) :
    BodyObligationLoose (dats m 0 c) (defs₀ (F := F)) 𝒱₀ () Set.univ := fun t => by
  rw [bigSep_W0, bigSep_W0]
  exact body_at m he c t

theorem share_eq (c : Dev nD) (w : Fin cfg0.W) : (dats m 0 c).share w = fullShare := by
  unfold Dat.share; split <;> rfl

theorem ofWhole (c : Dev nD) (b : Ref sig .tc) (f : b.ty.Contents (Elt F)) :
    (((c : Thread nD τ).loc b) ↦{fullShare} f : sProp 𝕄) ⊢ owns (c : Thread nD τ) (Memref.whole b) fullShare f := by
  rw [owns_whole]

theorem enter (c : Dev nD) : (Pipeline.ΦA spec0 c : sProp 𝕄) ⊢ (dats m 0 c).Φ 0 := by
  rw [show (dats m 0 c).Φ 0 = Φc m c 0 from rfl]
  unfold Pipeline.ΦA Φc
  rw [scopedRest0_eq]
  iintro ⟨⟨⟨%f0, H0⟩, ⟨%f1, H1⟩, ⟨%f2, H2⟩, ⟨%f3, H3⟩, ⟨%f4, H4⟩⟩, Hr⟩
  isplitl [H0]; · iexists f0; iapply (ofWhole c _ _); iexact H0
  isplitl [H1]; · iexists f1; iapply (ofWhole c _ _); iexact H1
  isplitl [H2]; · iexists f2; iapply (ofWhole c _ _); iexact H2
  isplitl [H3]
  · iexists (fun i y => f3 ((LnBwd.tAcc.rect i).emb y)); isplitr; swap
    · rw [LnBwd.tAcc.tile_blocks]; iapply (ofWhole c _ _); iexact H3
    · ipureintro; exact fun h => absurd rfl h
  isplitl [H4]
  · iexists (fun i y => f4 ((LnBwd.tAcc.rect i).emb y)); isplitr; swap
    · rw [LnBwd.tAcc.tile_blocks]; iapply (ofWhole c _ _); iexact H4
    · ipureintro; exact fun h => absurd rfl h
  iexact Hr

theorem leave (c : Dev nD) : (dats m 0 c).Φ (Fin.last cfg0.N) ⊢ (Pipeline.ΦA spec0 c : sProp 𝕄) := by
  rw [show (dats m 0 c).Φ (Fin.last cfg0.N) = Φc m c cfg0.N from rfl]
  unfold Pipeline.ΦA Φc
  rw [scopedRest0_eq]
  simp only [LnBwd.has, owns_whole_eq]
  iintro ⟨⟨%f0, %g0, -, H0⟩, ⟨%f1, %g1, -, H1⟩, ⟨%f2, %g2, -, H2⟩, ⟨%A, -, %g3, -, H3⟩, ⟨%B, -, %g4, -, H4⟩, Hr⟩
  isplitr [Hr]
  · isplitl [H0]; · iexists _; iexact H0
    isplitl [H1]; · iexists _; iexact H1
    isplitl [H2]; · iexists _; iexact H2
    isplitl [H3]; · iexists _; iexact H3
    iexists _; iexact H4
  · iexact Hr

set_option backward.isDefEq.respectTransparency.types false in
/-- Every weakly fair run of @main ends with every array at what the library computes from `dats`, every other buffer
    as the region found it, and every semaphore counter at zero. -/
theorem run_main (he : ∀ t : Fin cfg0.N, bodyAt0 (F := F) t = LnBwd.body (refs t) (num t)) :
    θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ 𝒱₀ m ρ main (body_obligation m he) (share_eq m) (fun _ _ => rfl) (V m) (hmain m 𝒱₀)
    (fun _ _ => rfl) (enter m) (leave m) _ (fun _ h => h)

end Cert.Kernel.Gen

end
-- ==== Proof.Kern.DatKernelIdeal.lean ====
/- The run of `KernelIdeal`: what its pipeline holds point by point, its body obligation, and its final arrays. -/
module

public import proofs.«01_k».proof.Proof.Gen.KernelIdeal.Frame
public import proofs.«01_k».proof.Proof.Kern.Point

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The buffers of the body at point `t`. -/
abbrev refs (t : Fin cfg0.N) : LnBwd.Refs sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), hstage0_8 ((cfg0.slots t 8).cast nbuf0_8), win0_9.stage (cfg0.slots t 9),
    win0_10.stage (cfg0.slots t 10), win0_11.stage (cfg0.slots t 11),
    Memref.whole cc0_scratch0, Memref.whole cc0_scratch1, Memref.whole cc0_scratch2, Memref.whole cc0_scratch3, Memref.whole cc0_scratch4⟩

/-- The point's number, as the body sees it. -/
abbrev num (t : Fin cfg0.N) : BitVec 32 := BitVec.ofNat 32 (grid0.coords t 0).val

theorem first_iff (t : Fin cfg0.N) : LnBwd.isPoint (num t) 0#32 = 1#1 ↔ t.val = 0 := by
  rcases fin_N0 t with h | h | h | h | h | h | h | h | h | h | h | h <;> subst h <;> decide
theorem last_iff (t : Fin cfg0.N) : LnBwd.isPoint (num t) 11#32 = 1#1 ↔ t.val = 11 := by
  rcases fin_N0 t with h | h | h | h | h | h | h | h | h | h | h | h <;> subst h <;> decide

/-- What the input windows hold at point `t`. -/
def ins (c : Dev nD) (t : Fin cfg0.N) : LnBwd.Ins F :=
  ⟨iblk m c 0 t, iblk m c 1 t, iblk m c 2 t, iblk m c 3 t, iblk m c 4 t, iblk m c 5 t, iblk m c 6 t, iblk m c 7 t⟩

/-- The two accumulators before point `k`. -/
def gam (c : Dev nD) : ℕ → Fin 1 × Fin 56 → FVec F LnBwd.S8x128 .f32
  | 0 => LnBwd.zeroFam
  | k + 1 => if h : k < cfg0.N then fun i => (ins m c ⟨k, h⟩).gamStep i.2 (gam c k i) else gam c k
def bet (c : Dev nD) : ℕ → Fin 1 × Fin 56 → FVec F LnBwd.S8x128 .f32
  | 0 => LnBwd.zeroFam
  | k + 1 => if h : k < cfg0.N then fun i => (ins m c ⟨k, h⟩).betStep i.2 (bet c k i) else bet c k

/-- A point leaves an accumulator at the next step's contents: at point 0 from any, at the others from this step's. -/
theorem gamPoint_eq (c : Dev nD) (t : Fin cfg0.N) (A : Fin 1 × Fin 56 → FVec F LnBwd.S8x128 .f32) (hA : t.val ≠ 0 → A = gam m c t.val) :
    LnBwd.gamPoint (ins m c t) (num t) A = gam m c (t.val + 1) := by
  rw [gam, dif_pos t.isLt]
  unfold LnBwd.gamPoint LnBwd.startFrom
  by_cases h : t.val = 0
  · rw [if_pos ((first_iff t).mpr h), show gam m c t.val = LnBwd.zeroFam by rw [h]; rfl]
  · rw [if_neg fun e => h ((first_iff t).mp e), hA h]
theorem betPoint_eq (c : Dev nD) (t : Fin cfg0.N) (A : Fin 1 × Fin 56 → FVec F LnBwd.S8x128 .f32) (hA : t.val ≠ 0 → A = bet m c t.val) :
    LnBwd.betPoint (ins m c t) (num t) A = bet m c (t.val + 1) := by
  rw [bet, dif_pos t.isLt]
  unfold LnBwd.betPoint LnBwd.startFrom
  by_cases h : t.val = 0
  · rw [if_pos ((first_iff t).mpr h), show bet m c t.val = LnBwd.zeroFam by rw [h]; rfl]
  · rw [if_neg fun e => h ((first_iff t).mp e), hA h]

/-- What the windows hold after point `t`; the two sums' windows are written at the last point alone. -/
def after (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => iblk m c 5 t
  | ⟨6, _⟩ => fun t => iblk m c 6 t
  | ⟨7, _⟩ => fun t => iblk m c 7 t
  | ⟨8, _⟩ => fun t => (ins m c t).codes
  | ⟨9, _⟩ => fun t => (ins m c t).scales
  | ⟨10, _⟩ => fun _ => LnBwd.colSums (gam m c 12)
  | ⟨11, _⟩ => fun _ => LnBwd.colSums (bet m c 12)

/-- The scratch before point `k`: three buffers at anything, the accumulators at their sums so far (at anything before point 0). -/
def Φc (c : Dev nD) (k : ℕ) : sProp 𝕄 :=
  iprop((∃ X, LnBwd.has c (Memref.whole cc0_scratch0) X) ∗ (∃ X, LnBwd.has c (Memref.whole cc0_scratch1) X) ∗ (∃ X, LnBwd.has c (Memref.whole cc0_scratch2) X)
    ∗ (∃ A, ⌜k ≠ 0 → A = gam m c k⌝ ∗ LnBwd.has c (Memref.whole cc0_scratch3) (LnBwd.tAcc.tile A))
    ∗ (∃ A, ⌜k ≠ 0 → A = bet m c k⌝ ∗ LnBwd.has c (Memref.whole cc0_scratch4) (LnBwd.tAcc.tile A))
    ∗ ∃ r, prngReg c r)

/-- The pipeline's proof data. -/
def dats (_ : Fin 1) (c : Dev nD) : Dat τ (Elt F) Unit ℕ (UR sig nD τ) ℕ cfg0 c where
  A w := V m c (Pipeline.arrRef spec0 w)
  after := after m c
  Φ t := Φc m c t.val
  q _ := fullShare
  owed _ := 0

/-- Window `w`'s buffer after the body at point `t`, as the library states it. -/
abbrev leaves (c : Dev nD) (t : Fin cfg0.N) (w : Fin cfg0.W) : sProp 𝕄 :=
  match cfg0.idle w (cfg0.grid.coords t) with
  | true =>
    match (cfg0.win w).flush t with
    | false => iprop(∃ d, owns c ((cfg0.win w).stage (cfg0.slots t w)) fullShare ((dats m 0 c).before w t d))
    | true =>
      match cfg0.loose w with
      | true => iprop(∃ d, owns c ((cfg0.win w).stage (cfg0.slots t w)) fullShare ((cfg0.win w).fill (cfg0.grid.coords t) d ((cfg0.win w).cut (cfg0.grid.coords t) ((dats m 0 c).after w t))))
      | false => owns c ((cfg0.win w).stage (cfg0.slots t w)) fullShare ((dats m 0 c).after w t)
  | false =>
    match cfg0.loose w with
    | true => iprop(∃ d, owns c ((cfg0.win w).stage (cfg0.slots t w)) fullShare ((cfg0.win w).fill (cfg0.grid.coords t) d ((cfg0.win w).cut (cfg0.grid.coords t) ((dats m 0 c).after w t))))
    | false => owns c ((cfg0.win w).stage (cfg0.slots t w)) fullShare ((dats m 0 c).after w t)

theorem idle_10 (t : Fin cfg0.N) : cfg0.idle 10 (cfg0.grid.coords t) = !(LnBwd.isPoint (num t) 11#32 == 1#1) := rfl
theorem idle_11 (t : Fin cfg0.N) : cfg0.idle 11 (cfg0.grid.coords t) = !(LnBwd.isPoint (num t) 11#32 == 1#1) := rfl

theorem last_val (t : Fin cfg0.N) : t.val % 12 = 11 ↔ t.val = 11 := by
  have : t.val < 12 := lt_of_lt_of_eq t.isLt N_0
  omega

theorem ofSome {α : Type} {P : α → sProp 𝕄} (d : α) : P d ⊢ iprop(∃ d, P d) := by
  iintro H; iexists d; iexact H
theorem bit_cases (b : BitVec 1) : b = 0#1 ∨ b = 1#1 := by revert b; decide

/-- A sum's window: written at the last point, left alone at the others. -/
theorem leaves_10 (c : Dev nD) (t : Fin cfg0.N) (d) :
    (owns c (win0_10.stage (cfg0.slots t 10)) fullShare (LnBwd.resultAt (num t) (gam m c (t.val + 1)) ((dats m 0 c).before 10 t d)) : sProp 𝕄) ⊢ leaves m c t 10 := by
  unfold leaves LnBwd.resultAt
  rw [idle_10]
  by_cases h : t.val = 11
  · rw [if_pos ((last_iff t).mpr h), (last_iff t).mpr h, h]
    exact BIBase.Entails.rfl
  · rw [if_neg fun e => h ((last_iff t).mp e), show LnBwd.isPoint (num t) 11#32 = 0#1 from ((bit_cases _).resolve_right fun e => h ((last_iff t).mp e)),
      show (cfg0.win 10).flush t = false from Bool.eq_false_iff.mpr fun e => h ((last_val t).mp ((flush0_10 t).mp e))]
    exact ofSome (P := fun d => owns c (win0_10.stage (cfg0.slots t 10)) fullShare ((dats m 0 c).before 10 t d)) d
theorem leaves_11 (c : Dev nD) (t : Fin cfg0.N) (d) :
    (owns c (win0_11.stage (cfg0.slots t 11)) fullShare (LnBwd.resultAt (num t) (bet m c (t.val + 1)) ((dats m 0 c).before 11 t d)) : sProp 𝕄) ⊢ leaves m c t 11 := by
  unfold leaves LnBwd.resultAt
  rw [idle_11]
  by_cases h : t.val = 11
  · rw [if_pos ((last_iff t).mpr h), (last_iff t).mpr h, h]
    exact BIBase.Entails.rfl
  · rw [if_neg fun e => h ((last_iff t).mp e), show LnBwd.isPoint (num t) 11#32 = 0#1 from ((bit_cases _).resolve_right fun e => h ((last_iff t).mp e)),
      show (cfg0.win 11).flush t = false from Bool.eq_false_iff.mpr fun e => h ((last_val t).mp ((flush0_11 t).mp e))]
    exact ofSome (P := fun d => owns c (win0_11.stage (cfg0.slots t 11)) fullShare ((dats m 0 c).before 11 t d)) d

set_option maxHeartbeats 2000000 in
/-- The body at point `t`, given that the printed body is the one with loops. -/
theorem body_at (he : ∀ t : Fin cfg0.N, bodyAt0 (F := F) t = LnBwd.body (refs t) (num t)) (c : Dev nD) (t : Fin cfg0.N) :
    iprop((dats m 0 c).Φ t.castSucc ∗ (dats m 0 c).owesAt () t.castSucc
        ∗ (∃ d, owns c (win0_0.stage (cfg0.slots t 0)) fullShare ((dats m 0 c).before 0 t d))
        ∗ (∃ d, owns c (win0_1.stage (cfg0.slots t 1)) fullShare ((dats m 0 c).before 1 t d))
        ∗ (∃ d, owns c (win0_2.stage (cfg0.slots t 2)) fullShare ((dats m 0 c).before 2 t d))
        ∗ (∃ d, owns c (win0_3.stage (cfg0.slots t 3)) fullShare ((dats m 0 c).before 3 t d))
        ∗ (∃ d, owns c (win0_4.stage (cfg0.slots t 4)) fullShare ((dats m 0 c).before 4 t d))
        ∗ (∃ d, owns c (win0_5.stage (cfg0.slots t 5)) fullShare ((dats m 0 c).before 5 t d))
        ∗ (∃ d, owns c (win0_6.stage (cfg0.slots t 6)) fullShare ((dats m 0 c).before 6 t d))
        ∗ (∃ d, owns c (win0_7.stage (cfg0.slots t 7)) fullShare ((dats m 0 c).before 7 t d))
        ∗ (∃ d, owns c (win0_8.stage (cfg0.slots t 8)) fullShare ((dats m 0 c).before 8 t d))
        ∗ (∃ d, owns c (win0_9.stage (cfg0.slots t 9)) fullShare ((dats m 0 c).before 9 t d))
        ∗ (∃ d, owns c (win0_10.stage (cfg0.slots t 10)) fullShare ((dats m 0 c).before 10 t d))
        ∗ (∃ d, owns c (win0_11.stage (cfg0.slots t 11)) fullShare ((dats m 0 c).before 11 t d)) : sProp 𝕄)
      ⊢ wp frame (wpE defs₀ 𝒱₀ (c : Thread nD τ) none) Set.univ (bodyAt0 (F := F) t) fun _ =>
        iprop((dats m 0 c).Φ t.succ ∗ (dats m 0 c).owesAt () t.succ
          ∗ owns c (win0_0.stage (cfg0.slots t 0)) fullShare (iblk m c 0 t)
          ∗ owns c (win0_1.stage (cfg0.slots t 1)) fullShare (iblk m c 1 t)
          ∗ owns c (win0_2.stage (cfg0.slots t 2)) fullShare (iblk m c 2 t)
          ∗ owns c (win0_3.stage (cfg0.slots t 3)) fullShare (iblk m c 3 t)
          ∗ owns c (win0_4.stage (cfg0.slots t 4)) fullShare (iblk m c 4 t)
          ∗ owns c (win0_5.stage (cfg0.slots t 5)) fullShare (iblk m c 5 t)
          ∗ owns c (win0_6.stage (cfg0.slots t 6)) fullShare (iblk m c 6 t)
          ∗ owns c (win0_7.stage (cfg0.slots t 7)) fullShare (iblk m c 7 t)
          ∗ owns c (win0_8.stage (cfg0.slots t 8)) fullShare (ins m c t).codes
          ∗ owns c (win0_9.stage (cfg0.slots t 9)) fullShare (ins m c t).scales
          ∗ leaves m c t 10 ∗ leaves m c t 11) := by
  rw [he, show (dats m 0 c).Φ t.castSucc = Φc m c t.val from rfl, show (dats m 0 c).Φ t.succ = Φc m c (t.val + 1) from rfl,
    show (dats m 0 c).owesAt () t.succ = (dats m 0 c).owesAt () t.castSucc from rfl]
  unfold Φc
  iintro ⟨⟨Hx, Hg, Hs, ⟨%A, %hA, Ha⟩, ⟨%B, %hB, Hb⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7]
  have run := LnBwd.body_wp (U := UR sig nD τ) (defs := defs₀ (F := F)) (𝒱 := 𝒱₀) (c := c) (E := Set.univ) (refs t) (ins m c t) (num t) A B
    ((dats m 0 c).before 10 t d10) ((dats m 0 c).before 11 t d11)
  rw [gamPoint_eq m c t A hA, betPoint_eq m c t B hB] at run
  iapply wp_wand_r
  isplitl [Hx Hg Hs Ha Hb H0 H1 H2 H3 H4 H5 H6 H7 H8 H9 H10 H11]
  · iapply run
    unfold LnBwd.heads LnBwd.reads
    isplitl [H0 H3 H4 H5 H6]
    · isplitl [H0]; · iexact H0
      isplitl [H4]; · iexact H4
      isplitl [H3]; · iexact H3
      isplitl [H5]; · iexact H5
      iexact H6
    isplitl [H1 H2 H7]
    · isplitl [H1]; · iexact H1
      isplitl [H2]; · iexact H2
      iexact H7
    isplitl [H8]; · iexists _; iexact H8
    isplitl [H9]; · iexists _; iexact H9
    isplitl [H10]; · iexact H10
    isplitl [H11]; · iexact H11
    isplitl [Hx]; · iexact Hx
    isplitl [Hg]; · iexact Hg
    isplitl [Hs]; · iexact Hs
    isplitl [Ha]; · iexact Ha
    iexact Hb
  · iintro %u H
    conv_lhs => unfold LnBwd.heads LnBwd.reads
    icases H with ⟨⟨H0, H4, H3, H5, H6⟩, ⟨H1, H2, H7⟩, H8, H9, H10, H11, Hx, Hg, Hs, Ha, Hb⟩
    isplitl [Hx Hg Hs Ha Hb Hr]
    · isplitl [Hx]; · iexact Hx
      isplitl [Hg]; · iexact Hg
      isplitl [Hs]; · iexact Hs
      isplitl [Ha]
      · iexists _; isplitr; swap
        · iexact Ha
        · ipureintro; exact fun _ => rfl
      isplitl [Hb]
      · iexists _; isplitr; swap
        · iexact Hb
        · ipureintro; exact fun _ => rfl
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (leaves_10 m c t d10) $$ H10
    · iapply (leaves_11 m c t d11) $$ H11

/-- The library's body obligation. -/
theorem body_obligation (he : ∀ t : Fin cfg0.N, bodyAt0 (F := F) t = LnBwd.body (refs t) (num t)) (c : Dev nD) :
    BodyObligationLoose (dats m 0 c) (defs₀ (F := F)) 𝒱₀ () Set.univ := fun t => by
  rw [bigSep_W0, bigSep_W0]
  exact body_at m he c t

theorem share_eq (c : Dev nD) (w : Fin cfg0.W) : (dats m 0 c).share w = fullShare := by
  unfold Dat.share; split <;> rfl

theorem ofWhole (c : Dev nD) (b : Ref sig .tc) (f : b.ty.Contents (Elt F)) :
    (((c : Thread nD τ).loc b) ↦{fullShare} f : sProp 𝕄) ⊢ owns (c : Thread nD τ) (Memref.whole b) fullShare f := by
  rw [owns_whole]

theorem enter (c : Dev nD) : (Pipeline.ΦA spec0 c : sProp 𝕄) ⊢ (dats m 0 c).Φ 0 := by
  rw [show (dats m 0 c).Φ 0 = Φc m c 0 from rfl]
  unfold Pipeline.ΦA Φc
  rw [scopedRest0_eq]
  iintro ⟨⟨⟨%f0, H0⟩, ⟨%f1, H1⟩, ⟨%f2, H2⟩, ⟨%f3, H3⟩, ⟨%f4, H4⟩⟩, Hr⟩
  isplitl [H0]; · iexists f0; iapply (ofWhole c _ _); iexact H0
  isplitl [H1]; · iexists f1; iapply (ofWhole c _ _); iexact H1
  isplitl [H2]; · iexists f2; iapply (ofWhole c _ _); iexact H2
  isplitl [H3]
  · iexists (fun i y => f3 ((LnBwd.tAcc.rect i).emb y)); isplitr; swap
    · rw [LnBwd.tAcc.tile_blocks]; iapply (ofWhole c _ _); iexact H3
    · ipureintro; exact fun h => absurd rfl h
  isplitl [H4]
  · iexists (fun i y => f4 ((LnBwd.tAcc.rect i).emb y)); isplitr; swap
    · rw [LnBwd.tAcc.tile_blocks]; iapply (ofWhole c _ _); iexact H4
    · ipureintro; exact fun h => absurd rfl h
  iexact Hr

theorem leave (c : Dev nD) : (dats m 0 c).Φ (Fin.last cfg0.N) ⊢ (Pipeline.ΦA spec0 c : sProp 𝕄) := by
  rw [show (dats m 0 c).Φ (Fin.last cfg0.N) = Φc m c cfg0.N from rfl]
  unfold Pipeline.ΦA Φc
  rw [scopedRest0_eq]
  simp only [LnBwd.has, owns_whole_eq]
  iintro ⟨⟨%f0, %g0, -, H0⟩, ⟨%f1, %g1, -, H1⟩, ⟨%f2, %g2, -, H2⟩, ⟨%A, -, %g3, -, H3⟩, ⟨%B, -, %g4, -, H4⟩, Hr⟩
  isplitr [Hr]
  · isplitl [H0]; · iexists _; iexact H0
    isplitl [H1]; · iexists _; iexact H1
    isplitl [H2]; · iexists _; iexact H2
    isplitl [H3]; · iexists _; iexact H3
    iexists _; iexact H4
  · iexact Hr

set_option backward.isDefEq.respectTransparency.types false in
/-- Every weakly fair run of @main ends with every array at what the library computes from `dats`, every other buffer
    as the region found it, and every semaphore counter at zero. -/
theorem run_main (he : ∀ t : Fin cfg0.N, bodyAt0 (F := F) t = LnBwd.body (refs t) (num t)) :
    θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ 𝒱₀ m ρ main (body_obligation m he) (share_eq m) (fun _ _ => rfl) (V m) (hmain m 𝒱₀)
    (fun _ _ => rfl) (enter m) (leave m) _ (fun _ h => h)

end Cert.KernelIdeal.Gen

end
-- ==== Proof.Kern.SameKernel.lean ====
/- The printed body of `Kernel` is the body with loops. -/
module

public import proofs.«01_k».proof.Kernel
public import proofs.«01_k».proof.Proof.Kern.Body
import Idealize.ShloMosaic.Lib.Tactic

@[expose] public section

set_option maxRecDepth 1000000
set_option maxHeartbeats 0

noncomputable section

namespace Cert.Kernel

open Idealize.ShloMosaic Idealize.SL.Sem

variable {F : FTy → Type} [FloatOps F] [Facts]

/-- What follows a conditional follows each of its branches. -/
theorem bind_dite {E : Type → Type _} {α β : Type} {c : Prop} [Decidable c] (p : c → Prog E α) (q : ¬c → Prog E α) (k : α → Prog E β) :
    (dite c p q >>= k) = dite c (fun h => p h >>= k) fun h => q h >>= k := by
  split <;> rfl

/-- The printed prologue is the prologue. -/
theorem head_eq (i : grid0.Coords)
    (arg1 : Memref sig .tc .smem S2 .f32) (harg1 : arg1.IsWhole)
    (arg2 : Memref sig .tc .vmem S128x7168 .bf16) (harg2 : arg2.IsWhole)
    (arg3 : Memref sig .tc .vmem S128x7168 .bf16) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S1x2x128 .f32) (harg6 : arg6.IsWhole)
    (arg7 : Memref sig .tc .vmem S1x2x128 .f32) (harg7 : arg7.IsWhole)
    (arg8 : Memref sig .tc .vmem S56x128 .f32) (harg8 : arg8.IsWhole)
    (arg9 : Memref sig .tc .vmem S128x7168 .fp8e5m2) (harg9 : arg9.IsWhole)
    (arg10 : Memref sig .tc .vmem S1x56x128 .f32) (harg10 : arg10.IsWhole)
    (arg11 : Memref sig .tc .vmem S56x128 .f32) (harg11 : arg11.IsWhole)
    (arg12 : Memref sig .tc .vmem S56x128 .f32) (harg12 : arg12.IsWhole)
    (arg13 : Memref sig .tc .vmem S32x7168 .f32) (harg13 : arg13.IsWhole)
    (arg14 : Memref sig .tc .vmem S32x7168 .f32) (harg14 : arg14.IsWhole)
    (arg15 : Memref sig .tc .vmem S128x128 .f32) (harg15 : arg15.IsWhole)
    (arg16 : Memref sig .tc .vmem S8x7168 .f32) (harg16 : arg16.IsWhole)
    (arg17 : Memref sig .tc .vmem S8x7168 .f32) (harg17 : arg17.IsWhole) :
    k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = LnBwd.prologue (F := F) (nD := nD) (τ := τ) (Λ := Λ₀) ⟨arg1, arg2, arg3, arg4, arg5, arg6, arg7, arg8, arg9, harg9, arg10, arg11, arg12, arg13, arg14, arg15, arg16, arg17⟩ (BitVec.ofNat 32 (i 0).val) >>= fun (n, r, m, pg, pgx) =>
          pure ⟨BitVec.ofNat 32 (i 0).val, n, r, m, pg, pgx, LnBwd.group 0 r, LnBwd.group 0 m⟩ := by
  unfold LnBwd.prologue
  refine Eq.trans ?_ (Prog.bind_assoc _ _ _).symm
  refine congrArg (Prog.bind _) (funext fun c0 => ?_)
  refine Eq.trans ?_ (Prog.bind_assoc _ _ _).symm
  refine congrArg (Prog.bind _) (funext fun c1 => ?_)
  refine Eq.trans ?_ (bind_dite _ _ _).symm
  sl_kernel_rfl

/-- The printed body at a grid point, straight-line, is `LnBwd.body` there: unfolding the loops gives the same program. -/
theorem body_eq (i : grid0.Coords)
    (arg1 : Memref sig .tc .smem S2 .f32) (harg1 : arg1.IsWhole)
    (arg2 : Memref sig .tc .vmem S128x7168 .bf16) (harg2 : arg2.IsWhole)
    (arg3 : Memref sig .tc .vmem S128x7168 .bf16) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S1x2x128 .f32) (harg6 : arg6.IsWhole)
    (arg7 : Memref sig .tc .vmem S1x2x128 .f32) (harg7 : arg7.IsWhole)
    (arg8 : Memref sig .tc .vmem S56x128 .f32) (harg8 : arg8.IsWhole)
    (arg9 : Memref sig .tc .vmem S128x7168 .fp8e5m2) (harg9 : arg9.IsWhole)
    (arg10 : Memref sig .tc .vmem S1x56x128 .f32) (harg10 : arg10.IsWhole)
    (arg11 : Memref sig .tc .vmem S56x128 .f32) (harg11 : arg11.IsWhole)
    (arg12 : Memref sig .tc .vmem S56x128 .f32) (harg12 : arg12.IsWhole)
    (arg13 : Memref sig .tc .vmem S32x7168 .f32) (harg13 : arg13.IsWhole)
    (arg14 : Memref sig .tc .vmem S32x7168 .f32) (harg14 : arg14.IsWhole)
    (arg15 : Memref sig .tc .vmem S128x128 .f32) (harg15 : arg15.IsWhole)
    (arg16 : Memref sig .tc .vmem S8x7168 .f32) (harg16 : arg16.IsWhole)
    (arg17 : Memref sig .tc .vmem S8x7168 .f32) (harg17 : arg17.IsWhole) :
    cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = LnBwd.body (F := F) (nD := nD) (τ := τ) (Λ := Λ₀) ⟨arg1, arg2, arg3, arg4, arg5, arg6, arg7, arg8, arg9, harg9, arg10, arg11, arg12, arg13, arg14, arg15, arg16, arg17⟩ (BitVec.ofNat 32 (i 0).val) := by
  unfold cc0_ln_bwd k0_part630
  refine (Prog.bind_assoc _ _ _).trans ?_
  rw [head_eq]
  refine (Prog.bind_assoc _ _ _).trans ?_
  refine (congrArg (Prog.bind _) (funext fun t => ?_))
  obtain ⟨n, r, m, pg, pgx⟩ := t
  sl_kernel_rfl
end Cert.Kernel

end
-- ==== Proof.Kern.SameKernelIdeal.lean ====
/- The printed body of `KernelIdeal` is the body with loops. -/
module

public import proofs.«01_k».proof.KernelIdeal
public import proofs.«01_k».proof.Proof.Kern.Body
import Idealize.ShloMosaic.Lib.Tactic

@[expose] public section

set_option maxRecDepth 1000000
set_option maxHeartbeats 0

noncomputable section

namespace Cert.KernelIdeal

open Idealize.ShloMosaic Idealize.SL.Sem

variable {F : FTy → Type} [FloatOps F] [Facts]

/-- What follows a conditional follows each of its branches. -/
theorem bind_dite {E : Type → Type _} {α β : Type} {c : Prop} [Decidable c] (p : c → Prog E α) (q : ¬c → Prog E α) (k : α → Prog E β) :
    (dite c p q >>= k) = dite c (fun h => p h >>= k) fun h => q h >>= k := by
  split <;> rfl

/-- The printed prologue is the prologue. -/
theorem head_eq (i : grid0.Coords)
    (arg1 : Memref sig .tc .smem S2 .f32) (harg1 : arg1.IsWhole)
    (arg2 : Memref sig .tc .vmem S128x7168 .bf16) (harg2 : arg2.IsWhole)
    (arg3 : Memref sig .tc .vmem S128x7168 .bf16) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S1x2x128 .f32) (harg6 : arg6.IsWhole)
    (arg7 : Memref sig .tc .vmem S1x2x128 .f32) (harg7 : arg7.IsWhole)
    (arg8 : Memref sig .tc .vmem S56x128 .f32) (harg8 : arg8.IsWhole)
    (arg9 : Memref sig .tc .vmem S128x7168 .fp8e5m2) (harg9 : arg9.IsWhole)
    (arg10 : Memref sig .tc .vmem S1x56x128 .f32) (harg10 : arg10.IsWhole)
    (arg11 : Memref sig .tc .vmem S56x128 .f32) (harg11 : arg11.IsWhole)
    (arg12 : Memref sig .tc .vmem S56x128 .f32) (harg12 : arg12.IsWhole)
    (arg13 : Memref sig .tc .vmem S32x7168 .f32) (harg13 : arg13.IsWhole)
    (arg14 : Memref sig .tc .vmem S32x7168 .f32) (harg14 : arg14.IsWhole)
    (arg15 : Memref sig .tc .vmem S128x128 .f32) (harg15 : arg15.IsWhole)
    (arg16 : Memref sig .tc .vmem S8x7168 .f32) (harg16 : arg16.IsWhole)
    (arg17 : Memref sig .tc .vmem S8x7168 .f32) (harg17 : arg17.IsWhole) :
    k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = LnBwd.prologue (F := F) (nD := nD) (τ := τ) (Λ := Λ₀) ⟨arg1, arg2, arg3, arg4, arg5, arg6, arg7, arg8, arg9, harg9, arg10, arg11, arg12, arg13, arg14, arg15, arg16, arg17⟩ (BitVec.ofNat 32 (i 0).val) >>= fun (n, r, m, pg, pgx) =>
          pure ⟨BitVec.ofNat 32 (i 0).val, n, r, m, pg, pgx, LnBwd.group 0 r, LnBwd.group 0 m⟩ := by
  unfold LnBwd.prologue
  refine Eq.trans ?_ (Prog.bind_assoc _ _ _).symm
  refine congrArg (Prog.bind _) (funext fun c0 => ?_)
  refine Eq.trans ?_ (Prog.bind_assoc _ _ _).symm
  refine congrArg (Prog.bind _) (funext fun c1 => ?_)
  refine Eq.trans ?_ (bind_dite _ _ _).symm
  sl_kernel_rfl

/-- The printed body at a grid point, straight-line, is `LnBwd.body` there: unfolding the loops gives the same program. -/
theorem body_eq (i : grid0.Coords)
    (arg1 : Memref sig .tc .smem S2 .f32) (harg1 : arg1.IsWhole)
    (arg2 : Memref sig .tc .vmem S128x7168 .bf16) (harg2 : arg2.IsWhole)
    (arg3 : Memref sig .tc .vmem S128x7168 .bf16) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S1x2x128 .f32) (harg6 : arg6.IsWhole)
    (arg7 : Memref sig .tc .vmem S1x2x128 .f32) (harg7 : arg7.IsWhole)
    (arg8 : Memref sig .tc .vmem S56x128 .f32) (harg8 : arg8.IsWhole)
    (arg9 : Memref sig .tc .vmem S128x7168 .fp8e5m2) (harg9 : arg9.IsWhole)
    (arg10 : Memref sig .tc .vmem S1x56x128 .f32) (harg10 : arg10.IsWhole)
    (arg11 : Memref sig .tc .vmem S56x128 .f32) (harg11 : arg11.IsWhole)
    (arg12 : Memref sig .tc .vmem S56x128 .f32) (harg12 : arg12.IsWhole)
    (arg13 : Memref sig .tc .vmem S32x7168 .f32) (harg13 : arg13.IsWhole)
    (arg14 : Memref sig .tc .vmem S32x7168 .f32) (harg14 : arg14.IsWhole)
    (arg15 : Memref sig .tc .vmem S128x128 .f32) (harg15 : arg15.IsWhole)
    (arg16 : Memref sig .tc .vmem S8x7168 .f32) (harg16 : arg16.IsWhole)
    (arg17 : Memref sig .tc .vmem S8x7168 .f32) (harg17 : arg17.IsWhole) :
    cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = LnBwd.body (F := F) (nD := nD) (τ := τ) (Λ := Λ₀) ⟨arg1, arg2, arg3, arg4, arg5, arg6, arg7, arg8, arg9, harg9, arg10, arg11, arg12, arg13, arg14, arg15, arg16, arg17⟩ (BitVec.ofNat 32 (i 0).val) := by
  unfold cc0_ln_bwd k0_part630
  refine (Prog.bind_assoc _ _ _).trans ?_
  rw [head_eq]
  refine (Prog.bind_assoc _ _ _).trans ?_
  refine (congrArg (Prog.bind _) (funext fun t => ?_))
  obtain ⟨n, r, m, pg, pgx⟩ := t
  sl_kernel_rfl
end Cert.KernelIdeal

end
-- ==== Proof.Kern.Sums.lean ====
/- The two column sums a grid point adds to its accumulators, as sums over the point's rows of extended reals. -/
module

public import proofs.«01_k».proof.Proof.Kern.Point
public import Idealize.ShloMosaic.Lib.Pointwise
public import Idealize.ShloMosaic.PureOps.Ideal

@[expose] public section

noncomputable section

namespace LnBwd

open Idealize.ShloMosaic

variable (W : Ins Ideal) (s : Fin 4) (j : Fin 56)

theorem betGroup_apply (a : FVec Ideal S8x128 .f32) (p : Fin 8) (q : Fin 128) :
    W.betGroup s j a (ix2 p q) = a (ix2 p q) + ∑ k : Fin 4, W.dyB s j (ix2 ⟨8 * k.val + p.val, by omega⟩ q) := by
  pointwise [Ins.betGroup, same8, accum]
  exact congrArg _ (Finset.sum_congr rfl fun k _ => congrArg (W.dyB s j) (congrArg (ix2 · q) (Fin.ext (by show k.val * 8 + p.val = 8 * k.val + p.val; omega))))

theorem gamGroup_apply (a : FVec Ideal S8x128 .f32) (p : Fin 8) (q : Fin 128) :
    W.gamGroup s j a (ix2 p q) = a (ix2 p q) + ∑ k : Fin 4, (mulf (W.qB s j) (W.xcB s j)) (ix2 ⟨8 * k.val + p.val, by omega⟩ q) := by
  unfold Ins.gamGroup
  generalize mulf (W.qB s j) (W.xcB s j) = v
  pointwise [same8, accum]
  exact congrArg _ (Finset.sum_congr rfl fun k _ => congrArg v (congrArg (ix2 · q) (Fin.ext (by show k.val * 8 + p.val = 8 * k.val + p.val; omega))))

theorem dyB_apply (p : Fin 32) (q : Fin 128) :
    W.dyB s j (ix2 p q) = W.dy (ix2 ⟨32 * s.val + p.val, by omega⟩ ⟨128 * j.val + q.val, by omega⟩) := by
  pointwise [Ins.dyB, wide]
  refine congrArg W.dy (funext fun a => Fin.ext ?_)
  fin_cases a <;> (rw [Rect.emb_apply]; simp [ix2])

theorem xB_apply (p : Fin 32) (q : Fin 128) :
    (wide fun y => W.x ((rRows s j).emb y)) (ix2 p q) = W.x (ix2 ⟨32 * s.val + p.val, by omega⟩ ⟨128 * j.val + q.val, by omega⟩) := by
  pointwise [wide]
  refine congrArg W.x (funext fun a => Fin.ext ?_)
  fin_cases a <;> (rw [Rect.emb_apply]; simp [ix2])

theorem rG_apply (p : Fin 32) (q : Fin 128) : group s W.r (ix2 p q) = W.rstd (ix3 0 0 ⟨32 * s.val + p.val, by omega⟩) := by
  pointwise [Ins.r, group, column, tokRow]
  refine congrArg W.rstd (funext fun a => Fin.ext ?_)
  fin_cases a <;> (rw [Rect.emb_apply]; simp [ix3])

theorem mG_apply (p : Fin 32) (q : Fin 128) : group s W.m (ix2 p q) = W.mean (ix3 0 0 ⟨32 * s.val + p.val, by omega⟩) := by
  pointwise [Ins.m, group, column, tokRow]
  refine congrArg W.mean (funext fun a => Fin.ext ?_)
  fin_cases a <;> (rw [Rect.emb_apply]; simp [ix3])

theorem colSum_apply (a : Vec Ideal S8x128 .f32) (p : Fin 1) (q : Fin 128) : colSum a (ix2 p q) = ∑ k : Fin 8, a (ix2 k q) := by
  pointwise [colSum]

/-- Row `i` of a grid point's dy, at column `q` of block `j`, and of dy times the normalised x. -/
def dyT (i : Fin 128) (q : Fin 128) : EReal := W.dy (ix2 i ⟨128 * j.val + q.val, by omega⟩)
def gaT (i : Fin 128) (q : Fin 128) : EReal :=
  (W.dy (ix2 i ⟨128 * j.val + q.val, by omega⟩) : EReal) * (W.rstd (ix3 0 0 i) : EReal)
    * ((W.x (ix2 i ⟨128 * j.val + q.val, by omega⟩) : EReal) - (W.mean (ix3 0 0 i) : EReal))

theorem gx_apply (p : Fin 32) (q : Fin 128) :
    (mulf (W.qB s j) (W.xcB s j)) (ix2 p q) = gaT W j ⟨32 * s.val + p.val, by omega⟩ q := by
  show (W.dyB s j (ix2 p q) * group s W.r (ix2 p q) : EReal) * ((wide fun y => W.x ((rRows s j).emb y)) (ix2 p q) - group s W.m (ix2 p q)) = _
  rw [dyB_apply, xB_apply, rG_apply, mG_apply]
  rfl

theorem betStep_apply (a : FVec Ideal S8x128 .f32) (p : Fin 8) (q : Fin 128) :
    W.betStep j a (ix2 p q) = a (ix2 p q) + ∑ s : Fin 4, ∑ k : Fin 4, dyT W j ⟨32 * s.val + (8 * k.val + p.val), by omega⟩ q := by
  rw [Fin.sum_univ_four (fun s : Fin 4 => ∑ k : Fin 4, dyT W j ⟨32 * s.val + (8 * k.val + p.val), by omega⟩ q)]
  unfold Ins.betStep
  rw [betGroup_apply, betGroup_apply, betGroup_apply, betGroup_apply]
  simp only [dyB_apply, add_assoc]
  rfl

theorem gamStep_apply (a : FVec Ideal S8x128 .f32) (p : Fin 8) (q : Fin 128) :
    W.gamStep j a (ix2 p q) = a (ix2 p q) + ∑ s : Fin 4, ∑ k : Fin 4, gaT W j ⟨32 * s.val + (8 * k.val + p.val), by omega⟩ q := by
  rw [Fin.sum_univ_four (fun s : Fin 4 => ∑ k : Fin 4, gaT W j ⟨32 * s.val + (8 * k.val + p.val), by omega⟩ q)]
  unfold Ins.gamStep
  rw [gamGroup_apply, gamGroup_apply, gamGroup_apply, gamGroup_apply]
  simp only [gx_apply, add_assoc]

/-- A sum over `a * b` places, as `a` sums over `b`. -/
theorem sum_range_mul {M : Type} [AddCommMonoid M] (f : ℕ → M) (b : ℕ) : ∀ a : ℕ,
    ∑ n ∈ Finset.range (b * a), f n = ∑ x ∈ Finset.range a, ∑ y ∈ Finset.range b, f (b * x + y)
  | 0 => by simp
  | a + 1 => by
    rw [Nat.mul_succ, Finset.sum_range_add, sum_range_mul f b a, Finset.sum_range_succ]

/-- The 1536 rows in the order the accumulators meet them: a grid point's row groups, each four rows to an accumulator row. -/
theorem sum_rows {M : Type} [AddCommMonoid M] (G : ℕ → M) :
    ∑ p : Fin 8, ∑ t ∈ Finset.range 12, ∑ s : Fin 4, ∑ k : Fin 4, G (128 * t + (32 * s.val + (8 * k.val + p.val)))
      = ∑ n ∈ Finset.range 1536, G n := by
  rw [show 1536 = 128 * 12 from rfl, sum_range_mul G 128 12, Finset.sum_comm]
  refine Finset.sum_congr rfl fun t _ => ?_
  rw [show 128 = 32 * 4 from rfl, sum_range_mul _ 32 4, Finset.sum_comm, Finset.sum_range]
  refine Finset.sum_congr rfl fun s _ => ?_
  rw [show 32 = 8 * 4 from rfl, sum_range_mul _ 8 4, Finset.sum_comm, Finset.sum_range]
  refine Finset.sum_congr rfl fun k _ => ?_
  rw [Finset.sum_range]

/-- An accumulator that starts at zero and takes each point's rows, summed over its own eight rows: the sum over all rows. -/
theorem total (acc : ℕ → FVec Ideal S8x128 .f32) (G : ℕ → EReal) (q : Fin 128)
    (h0 : ∀ p : Fin 8, acc 0 (ix2 p q) = 0)
    (hs : ∀ t : ℕ, t < 12 → ∀ p : Fin 8, acc (t + 1) (ix2 p q)
      = acc t (ix2 p q) + ∑ s : Fin 4, ∑ k : Fin 4, G (128 * t + (32 * s.val + (8 * k.val + p.val)))) (p : Fin 1) :
    colSum (F := Ideal) (acc 12) (ix2 p q) = ∑ n ∈ Finset.range 1536, G n := by
  rw [colSum_apply, ← sum_rows]
  refine Finset.sum_congr rfl fun p _ => ?_
  have h : ∀ n : ℕ, n ≤ 12 → acc n (ix2 p q)
      = ∑ t ∈ Finset.range n, ∑ s : Fin 4, ∑ k : Fin 4, G (128 * t + (32 * s.val + (8 * k.val + p.val))) := fun n => by
    induction n with
    | zero => intro _; rw [h0]; rfl
    | succ n ih => intro hn; rw [hs n (by omega), ih (by omega), Finset.sum_range_succ]
  exact h 12 le_rfl

theorem zeroFam_apply (i : Fin 1 × Fin 56) (p : Fin 8) (q : Fin 128) : zeroFam (F := Ideal) i (ix2 p q) = 0 := by
  unfold zeroFam
  pointwise [zeros8]

end LnBwd

end
-- ==== Proof.Kern.ValueKernelIdeal.lean ====
/- What the kernel leaves in its two sums' arrays, read off its arguments, over the extended reals. -/
module

public import proofs.«01_k».proof.Proof.Kern.DatKernelIdeal
public import proofs.«01_k».proof.Proof.Kern.Sums
public import Idealize.ShloMosaic.Lib.Pipeline.ValueKit
public import Idealize.ShloMosaic.Lib.Claim

@[expose] public section

noncomputable section

namespace Cert.KernelIdeal.Gen

open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

theorem index_1 (t : Fin cfg0.N) : win0_1.index t = ![t.val, 0] := by
  rcases fin_N0 t with h | h | h | h | h | h | h | h | h | h | h | h <;> subst h <;> decide
theorem index_2 (t : Fin cfg0.N) : win0_2.index t = ![t.val, 0] := by
  rcases fin_N0 t with h | h | h | h | h | h | h | h | h | h | h | h <;> subst h <;> decide
theorem index_3 (t : Fin cfg0.N) : win0_3.index t = ![t.val / 2, 0, t.val % 2] := by
  rcases fin_N0 t with h | h | h | h | h | h | h | h | h | h | h | h <;> subst h <;> decide
theorem index_4 (t : Fin cfg0.N) : win0_4.index t = ![t.val / 2, 0, t.val % 2] := by
  rcases fin_N0 t with h | h | h | h | h | h | h | h | h | h | h | h <;> subst h <;> decide

theorem index_10 (t : Fin cfg0.N) : win0_10.index t = ![0, 0] := by
  rcases fin_N0 t with h | h | h | h | h | h | h | h | h | h | h | h <;> subst h <;> decide
theorem index_11 (t : Fin cfg0.N) : win0_11.index t = ![0, 0] := by
  rcases fin_N0 t with h | h | h | h | h | h | h | h | h | h | h | h <;> subst h <;> decide

theorem lt_12 (t : Fin cfg0.N) : t.val < 12 := lt_of_lt_of_eq t.isLt N_0

/-- A token's place: batch `n / 256`, position `n % 256`. -/
theorem x_apply (t : Fin cfg0.N) (i : Fin 128) (e : Fin 7168) :
    (ins m c t).x (ix2 i e) = m ((c.tc : Thread nD τ).loc main_arg0)
      (ix3 ⟨(128 * t.val + i.val) / 256, by have := lt_12 t; omega⟩ ⟨(128 * t.val + i.val) % 256, by omega⟩ e) := by
  have := lt_12 t
  show iblk m c 1 t (ix2 i e) = _
  blk_simp [iblk, index_1 t]
  entry_read
  pointwise
  blk_ext [index_1 t]
theorem dy_apply (t : Fin cfg0.N) (i : Fin 128) (e : Fin 7168) :
    (ins m c t).dy (ix2 i e) = m ((c.tc : Thread nD τ).loc main_arg1)
      (ix3 ⟨(128 * t.val + i.val) / 256, by have := lt_12 t; omega⟩ ⟨(128 * t.val + i.val) % 256, by omega⟩ e) := by
  have := lt_12 t
  show iblk m c 2 t (ix2 i e) = _
  blk_simp [iblk, index_2 t]
  entry_read
  pointwise
  blk_ext [index_2 t]
theorem mean_apply (t : Fin cfg0.N) (i : Fin 128) :
    (ins m c t).mean (ix3 0 0 i) = m ((c.tc : Thread nD τ).loc main_arg2)
      (ix2 ⟨(128 * t.val + i.val) / 256, by have := lt_12 t; omega⟩ ⟨(128 * t.val + i.val) % 256, by omega⟩) := by
  have := lt_12 t
  show iblk m c 3 t (ix3 0 0 i) = _
  blk_simp [iblk, index_3 t]
  entry_read
  pointwise
  blk_ext [index_3 t]
theorem rstd_apply (t : Fin cfg0.N) (i : Fin 128) :
    (ins m c t).rstd (ix3 0 0 i) = m ((c.tc : Thread nD τ).loc main_arg3)
      (ix2 ⟨(128 * t.val + i.val) / 256, by have := lt_12 t; omega⟩ ⟨(128 * t.val + i.val) % 256, by omega⟩) := by
  have := lt_12 t
  show iblk m c 4 t (ix3 0 0 i) = _
  blk_simp [iblk, index_4 t]
  entry_read
  pointwise
  blk_ext [index_4 t]

/-- The last point alone writes the two sums' windows back, and their block is the whole array. -/
theorem final_10 : (dats m 0 c).arrAt 10 cfg0.N = LnBwd.colSums (gam m c 12) := by
  refine (dats m 0 c).arrAt_eq_of_covers 10 _ (by decide +kernel) fun t hf y => ?_
  blk_simp
  show LnBwd.colSums (gam m c 12) y = _
  refine congrArg (LnBwd.colSums (gam m c 12)) ?_
  blk_ext [index_10 t]
theorem final_11 : (dats m 0 c).arrAt 11 cfg0.N = LnBwd.colSums (bet m c 12) := by
  refine (dats m 0 c).arrAt_eq_of_covers 11 _ (by decide +kernel) fun t hf y => ?_
  blk_simp
  show LnBwd.colSums (bet m c 12) y = _
  refine congrArg (LnBwd.colSums (bet m c 12)) ?_
  blk_ext [index_11 t]

/-- One row's part of dgamma. -/
abbrev term (d r x u : EReal) : EReal := d * r * (x - u)

/-- Row `n` of dy, and of dy times the normalised x, at column `e`. -/
def dyRow (e : Fin 7168) (n : ℕ) : EReal :=
  if h : n < 1536 then m ((c.tc : Thread nD τ).loc main_arg1) (ix3 ⟨n / 256, by omega⟩ ⟨n % 256, by omega⟩ e) else 0
def gaRow (e : Fin 7168) (n : ℕ) : EReal :=
  if h : n < 1536 then
    term (m ((c.tc : Thread nD τ).loc main_arg1) (ix3 ⟨n / 256, by omega⟩ ⟨n % 256, by omega⟩ e))
      (m ((c.tc : Thread nD τ).loc main_arg3) (ix2 ⟨n / 256, by omega⟩ ⟨n % 256, by omega⟩))
      (m ((c.tc : Thread nD τ).loc main_arg0) (ix3 ⟨n / 256, by omega⟩ ⟨n % 256, by omega⟩ e))
      (m ((c.tc : Thread nD τ).loc main_arg2) (ix2 ⟨n / 256, by omega⟩ ⟨n % 256, by omega⟩))
  else 0

theorem dyT_eq (t : Fin cfg0.N) (j : Fin 56) (i q : Fin 128) :
    LnBwd.dyT (ins m c t) j i q = dyRow m c ⟨128 * j.val + q.val, by omega⟩ (128 * t.val + i.val) := by
  have := lt_12 t
  unfold LnBwd.dyT dyRow
  rw [dif_pos (by omega), dy_apply]
theorem gaT_eq (t : Fin cfg0.N) (j : Fin 56) (i q : Fin 128) :
    LnBwd.gaT (ins m c t) j i q = gaRow m c ⟨128 * j.val + q.val, by omega⟩ (128 * t.val + i.val) := by
  have := lt_12 t
  unfold LnBwd.gaT gaRow
  rw [dif_pos (by omega), dy_apply, x_apply, mean_apply, rstd_apply]

theorem colSums_apply (A : Fin 1 × Fin 56 → FVec Ideal LnBwd.S8x128 .f32) (j : Fin 56) (q : Fin 128) :
    LnBwd.colSums A (ix2 j q) = LnBwd.colSum (F := Ideal) (A (0, j)) (ix2 0 q) := by
  have h := congrFun (LnBwd.tRow.tile_emb (fun i : Fin 56 × Fin 1 => LnBwd.colSum (F := Ideal) (A (0, i.1))) (j, 0)) (ix2 0 q)
  rw [← h]
  refine congrArg (LnBwd.colSums A) (funext fun a => Fin.ext ?_)
  fin_cases a <;> (rw [Rect.emb_apply]; simp [ix2, LnBwd.tRow, LnBwd.grid2])

/-- dbeta's and dgamma's sums, over all rows. -/
theorem dbeta_apply (j : Fin 56) (q : Fin 128) :
    LnBwd.colSums (bet m c 12) (ix2 j q) = ∑ n ∈ Finset.range 1536, dyRow m c ⟨128 * j.val + q.val, by omega⟩ n := by
  rw [colSums_apply]
  refine LnBwd.total (fun k => bet m c k (0, j)) _ q (fun p => LnBwd.zeroFam_apply _ p q) (fun t ht p => ?_) 0
  have hN : t < cfg0.N := lt_of_lt_of_eq ht N_0.symm
  show bet m c (t + 1) (0, j) (ix2 p q) = _
  rw [bet, dif_pos hN, LnBwd.betStep_apply]
  simp only [dyT_eq]
theorem dgamma_apply (j : Fin 56) (q : Fin 128) :
    LnBwd.colSums (gam m c 12) (ix2 j q) = ∑ n ∈ Finset.range 1536, gaRow m c ⟨128 * j.val + q.val, by omega⟩ n := by
  rw [colSums_apply]
  refine LnBwd.total (fun k => gam m c k (0, j)) _ q (fun p => LnBwd.zeroFam_apply _ p q) (fun t ht p => ?_) 0
  have hN : t < cfg0.N := lt_of_lt_of_eq ht N_0.symm
  show gam m c (t + 1) (0, j) (ix2 p q) = _
  rw [gam, dif_pos hN, LnBwd.gamStep_apply]
  simp only [gaT_eq]

end Cert.KernelIdeal.Gen

end
-- ==== Proof.Kern.ValueReference.lean ====
/- The reference's two results, over the reals, are the kernel's two sums. -/
module

public import proofs.«01_k».proof.Proof.Kern.ValueKernelIdeal
public import proofs.«01_k».proof.Proof.Gen.ReferenceIdeal
public import proofs.«01_k».proof.Proof.Gen.ReferenceIdeal.Value

@[expose] public section

noncomputable section

namespace Cert.ReferenceIdeal

open Idealize.ShloMosaic Idealize.ShloMosaic.TcCoe Idealize.SL.Sem
open Facts₀ Facts
open scoped BigOperators

/-- The two results as the reference composes them. -/
def refDgamma [Facts] (x dy : FVec Ideal S6x256x7168 .bf16) (mean rstd : FVec Ideal S6x256 .f32) : FVec Ideal S56x128 .f32 :=
  shapeCast _ (Host.reduceAdd (mulf (extf .f32 (shapeCast _ dy shapeCasts_S6x256x7168_S1536x7168) bitsLt_bf16_f32) (mulf (subf (extf .f32 (shapeCast _ x shapeCasts_S6x256x7168_S1536x7168) bitsLt_bf16_f32) (broadcastInDim S1536x7168 ![0, 1] bcast_S1536x1_S1536x7168_0_1 (broadcastInDim S1536x1 ![0] bcast_S1536_S1536x1_0 (shapeCast _ mean shapeCasts_S6x256_S1536)))) (broadcastInDim S1536x7168 ![0, 1] bcast_S1536x1_S1536x7168_0_1 (broadcastInDim S1536x1 ![0] bcast_S1536_S1536x1_0 (shapeCast _ rstd shapeCasts_S6x256_S1536))))) (constant S_ .f32 0x00000000#32) reducesTo_S1536x7168_S7168_d0 h_S_) shapeCasts_S7168_S56x128
def refDbeta [Facts] (dy : FVec Ideal S6x256x7168 .bf16) : FVec Ideal S56x128 .f32 :=
  shapeCast _ (Host.reduceAdd (extf .f32 (shapeCast _ dy shapeCasts_S6x256x7168_S1536x7168) bitsLt_bf16_f32) (constant S_ .f32 0x00000000#32) reducesTo_S1536x7168_S7168_d0 h_S_) shapeCasts_S7168_S56x128

variable [Facts]

theorem refDbeta_apply (dy : FVec Ideal S6x256x7168 .bf16) (j : Fin 56) (q : Fin 128) :
    refDbeta dy (ix2 j q) = ∑ n : Fin 1536, dy (ix3 ⟨n.val / 256, by omega⟩ ⟨n.val % 256, by omega⟩ ⟨128 * j.val + q.val, by omega⟩) := by
  pointwise [refDbeta]
  simp only [Nat.mul_comm j.val 128]

/-- The kernel multiplies by rstd first. -/
theorem reorder (d r x u : EReal) : d * ((x - u) * r) = Cert.KernelIdeal.Gen.term d r x u := by
  unfold Cert.KernelIdeal.Gen.term
  rw [mul_comm (x - u) r, mul_assoc]

theorem refDgamma_apply (x dy : FVec Ideal S6x256x7168 .bf16) (mean rstd : FVec Ideal S6x256 .f32) (j : Fin 56) (q : Fin 128) :
    refDgamma x dy mean rstd (ix2 j q) = ∑ n : Fin 1536,
      Cert.KernelIdeal.Gen.term (dy (ix3 ⟨n.val / 256, by omega⟩ ⟨n.val % 256, by omega⟩ ⟨128 * j.val + q.val, by omega⟩))
        (rstd (ix2 ⟨n.val / 256, by omega⟩ ⟨n.val % 256, by omega⟩))
        (x (ix3 ⟨n.val / 256, by omega⟩ ⟨n.val % 256, by omega⟩ ⟨128 * j.val + q.val, by omega⟩))
        (mean (ix2 ⟨n.val / 256, by omega⟩ ⟨n.val % 256, by omega⟩)) := by
  pointwise [refDgamma]
  simp only [Nat.mul_comm j.val 128]
  exact Finset.sum_congr rfl fun n _ => reorder _ _ _ _

variable (m : (ℓ : Loc Cert.KernelIdeal.nD Cert.KernelIdeal.τ Cert.KernelIdeal.sig) → Buf (Elt Ideal) ℓ) (c : Dev Cert.KernelIdeal.nD)

open Cert.KernelIdeal.Gen (gam bet dgamma_apply dbeta_apply dyRow gaRow)

/-- On the same arguments the reference's dbeta is what the kernel leaves there, and so is its dgamma. -/
theorem dbeta_eq : refDbeta (m ((c.tc : Thread Cert.KernelIdeal.nD Cert.KernelIdeal.τ).loc Cert.KernelIdeal.main_arg1)) = LnBwd.colSums (bet m c 12) := by
  refine funext fun y => ?_
  obtain ⟨j, q, rfl⟩ : ∃ (j : Fin 56) (q : Fin 128), y = ix2 j q := ⟨y 0, y 1, eq_ix2 y⟩
  rw [refDbeta_apply, dbeta_apply, Finset.sum_range]
  exact Finset.sum_congr rfl fun n _ => by rw [dyRow, dif_pos n.isLt]
theorem dgamma_eq : refDgamma (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) = LnBwd.colSums (gam m c 12) := by
  refine funext fun y => ?_
  obtain ⟨j, q, rfl⟩ : ∃ (j : Fin 56) (q : Fin 128), y = ix2 j q := ⟨y 0, y 1, eq_ix2 y⟩
  rw [refDgamma_apply, dgamma_apply, Finset.sum_range]
  exact Finset.sum_congr rfl fun n _ => by rw [gaRow, dif_pos n.isLt]

end Cert.ReferenceIdeal

end
-- ==== Proof.Kern.RefTerms.lean ====
/- The reference's four results as functions of its arguments, in the lines of its text. -/
module

public import proofs.«01_k».proof.Proof.Gen.ReferenceIdeal
public import proofs.«01_k».proof.Proof.Gen.ReferenceIdeal.Frame
public import proofs.«01_k».proof.Proof.Gen.ReferenceIdeal.Value
public import Idealize.ShloMosaic.Lib.Pipeline.ValueKit
public import Idealize.ShloMosaic.Lib.Claim
public import Idealize.ShloMosaic.Lib.Pointwise

@[expose] public section

noncomputable section

namespace Cert.ReferenceIdeal

open Idealize.ShloMosaic Idealize.ShloMosaic.TcCoe Idealize.SL.Sem
open Facts₀ Facts
open scoped BigOperators

variable [Facts]

/-- A token array's rows; a value per token, along its row. -/
def rows (v : FVec Ideal S6x256x7168 .bf16) : FVec Ideal S1536x7168 .f32 :=
  extf .f32 (shapeCast _ v shapeCasts_S6x256x7168_S1536x7168) bitsLt_bf16_f32
def along (v : FVec Ideal S1536 .f32) : FVec Ideal S1536x7168 .f32 :=
  broadcastInDim S1536x7168 ![0, 1] bcast_S1536x1_S1536x7168_0_1 (broadcastInDim S1536x1 ![0] bcast_S1536_S1536x1_0 v)
def flat (v : FVec Ideal S6x256 .f32) : FVec Ideal S1536 .f32 := shapeCast _ v shapeCasts_S6x256_S1536
def xhat (x : FVec Ideal S6x256x7168 .bf16) (mean rstd : FVec Ideal S6x256 .f32) : FVec Ideal S1536x7168 .f32 :=
  mulf (subf (rows x) (along (flat mean))) (along (flat rstd))
def scaled (dy : FVec Ideal S6x256x7168 .bf16) (gamma : FVec Ideal S7168 .f32) : FVec Ideal S1536x7168 .f32 :=
  mulf (rows dy) (broadcastInDim S1536x7168 ![0, 1] bcast_S1x7168_S1536x7168_0_1 (broadcastInDim S1x7168 ![1] bcast_S7168_S1x7168_1 gamma))
def rowSums (v : FVec Ideal S1536x7168 .f32) : FVec Ideal S1536 .f32 :=
  Host.reduceAdd v (constant S_ .f32 0x00000000#32) reducesTo_S1536x7168_S1536_d1 h_S_
def peer0 (v : FVec Ideal S2x6x256 .f32) : FVec Ideal S1536 .f32 :=
  shapeCast _ (extractStridedSlice S1x1536 ![0, 0] (shapeCast S2x1536 v shapeCasts_S2x6x256_S2x1536) slices_S2x1536_S1x1536_0_0) shapeCasts_S1x1536_S1536
def peer1 (v : FVec Ideal S2x6x256 .f32) : FVec Ideal S1536 .f32 :=
  shapeCast _ (extractStridedSlice S1x1536 ![1, 0] (shapeCast S2x1536 v shapeCasts_S2x6x256_S2x1536) slices_S2x1536_S1x1536_1_0) shapeCasts_S1x1536_S1536
def total (n : FVec Ideal S2 .f32) : FVec Ideal S_ .f32 :=
  addf (addf (shapeCast S_ (extractStridedSlice S1 ![0] n slices_S2_S1_0) shapeCasts_S1_S_) (constant S_ .f32 0x45E00000#32))
    (shapeCast S_ (extractStridedSlice S1 ![1] n slices_S2_S1_1) shapeCasts_S1_S_)
/-- A mean over all ranks. -/
def meanOf (own : FVec Ideal S1536 .f32) (p : FVec Ideal S2x6x256 .f32) (n : FVec Ideal S2 .f32) : FVec Ideal S1536 .f32 :=
  Host.divf (addf (addf (peer0 p) own) (peer1 p)) (broadcastInDim S1536 ![] bcast_S_S1536 (total n))
/-- dx from the scaled dy and the normalised x. -/
def dxFrom (g xh : FVec Ideal S1536x7168 .f32) (rstd : FVec Ideal S6x256 .f32) (n : FVec Ideal S2 .f32) (pg pgx : FVec Ideal S2x6x256 .f32) :
    FVec Ideal S1536x7168 .f32 :=
  mulf (along (flat rstd)) (subf (subf g (along (meanOf (rowSums g) pg n))) (mulf xh (along (meanOf (rowSums (mulf g xh)) pgx n))))
/-- A block's largest magnitude over 57344. -/
def ratio (v : FVec Ideal S1536x56x128 .f32) : FVec Ideal S1536x56 .f32 :=
  mulf (Host.reduce FloatOps.maximumf (Host.absf v) (constant S_ .f32 0xFF800000#32) reducesTo_S1536x56x128_S1536x56_d2 h_S_)
    (broadcastInDim S1536x56 ![] bcast_S_S1536x56 (constant S_ .f32 0x37924925#32))
/-- The powers of two. -/
def powers : FVec Ideal S239 .f32 :=
  Host.powf (broadcastInDim S239 ![] bcast_S_S239 (constant S_ .f32 0x40000000#32))
    (sitofp .f32 (addi (broadcastInDim S239 ![] bcast_S_S239 (constantI S_ 32 4294967171#32)) (iotaInDim S239 32 0)))
/-- The powers of two above `t`. -/
def aboveOf (t : FVec Ideal S1536x56 .f32) : FVec Ideal S1536x56x239 .f32 :=
  select (cmpf .ogt (broadcastInDim S1536x56x239 ![0, 1, 2] bcast_S1x1x239_S1536x56x239_0_1_2 (broadcastInDim S1x1x239 ![2] bcast_S239_S1x1x239_2 powers))
      (broadcastInDim S1536x56x239 ![0, 1, 2] bcast_S1536x56x1_S1536x56x239_0_1_2 (broadcastInDim S1536x56x1 ![0, 1] bcast_S1536x56_S1536x56x1_0_1 t)))
    (broadcastInDim S1536x56x239 ![2] bcast_S239_S1536x56x239_2 powers)
    (broadcastInDim S1536x56x239 ![] bcast_S_S1536x56x239 (constant S_ .f32 0x78000000#32))
def scaleOf (t : FVec Ideal S1536x56 .f32) : FVec Ideal S1536x56 .f32 :=
  select (cmpf .olt t (broadcastInDim S1536x56 ![] bcast_S_S1536x56 (constant S_ .f32 0x00800000#32)))
    (broadcastInDim S1536x56 ![] bcast_S_S1536x56 (constant S_ .f32 0x3F800000#32))
    (Host.reduce FloatOps.minimumf (aboveOf t) (constant S_ .f32 0x7F800000#32) reducesTo_S1536x56x239_S1536x56_d2 h_S_)
def blocked (v : FVec Ideal S1536x7168 .f32) : FVec Ideal S1536x56x128 .f32 := shapeCast _ v shapeCasts_S1536x7168_S1536x56x128
/-- A block times the inverse of its scale. -/
def quotient (v : FVec Ideal S1536x56x128 .f32) (s : FVec Ideal S1536x56 .f32) : FVec Ideal S1536x7168 .f32 :=
  shapeCast _ (mulf v (broadcastInDim S1536x56x128 ![0, 1, 2] bcast_S1536x56x1_S1536x56x128_0_1_2 (broadcastInDim S1536x56x1 ![0, 1] bcast_S1536x56_S1536x56x1_0_1
    (Host.divf (broadcastInDim S1536x56 ![] bcast_S_S1536x56 (constant S_ .f32 0x3F800000#32)) s)))) shapeCasts_S1536x56x128_S1536x7168
def scaleArray (s : FVec Ideal S1536x56 .f32) : FVec Ideal S6x56x256 .f32 :=
  transpose S6x56x256 [0, 2, 1] (shapeCast S6x256x56 s shapeCasts_S1536x56_S6x256x56) transposes_S6x256x56_S6x56x256_0_2_1
def colSums (v : FVec Ideal S1536x7168 .f32) : FVec Ideal S56x128 .f32 :=
  shapeCast _ (Host.reduceAdd v (constant S_ .f32 0x00000000#32) reducesTo_S1536x7168_S7168_d0 h_S_) shapeCasts_S7168_S56x128

variable (x dy : FVec Ideal S6x256x7168 .bf16) (mean rstd : FVec Ideal S6x256 .f32) (gamma : FVec Ideal S7168 .f32)
  (n : FVec Ideal S2 .f32) (pg pgx : FVec Ideal S2x6x256 .f32)

def refDx : FVec Ideal S1536x7168 .f32 := dxFrom (scaled dy gamma) (xhat x mean rstd) rstd n pg pgx
def refScale : FVec Ideal S1536x56 .f32 := scaleOf (ratio (blocked (refDx x dy mean rstd gamma n pg pgx)))
def refQuot : FVec Ideal S1536x7168 .f32 :=
  quotient (blocked (refDx x dy mean rstd gamma n pg pgx)) (refScale x dy mean rstd gamma n pg pgx)
def refScales : FVec Ideal S6x56x256 .f32 := scaleArray (refScale x dy mean rstd gamma n pg pgx)
def dgammaTerm : FVec Ideal S56x128 .f32 := colSums (mulf (rows dy) (xhat x mean rstd))
def dbetaTerm : FVec Ideal S56x128 .f32 := colSums (rows dy)

end Cert.ReferenceIdeal

end
-- ==== Proof.Kern.RefRead.lean ====
/- The reference's host lines leave those terms in its buffers. -/
module

public import proofs.«01_k».proof.Proof.Kern.RefTerms
public import Idealize.ShloMosaic.Lib.Tactic
public import Idealize.ShloMosaic.Lib.StableHlo.RunRead

@[expose] public section

noncomputable section

namespace Cert.ReferenceIdeal.Gen

open Idealize.ShloMosaic Idealize.ShloMosaic.TcCoe Idealize.SL.Sem

attribute [local instance] Cert.ReferenceIdeal.Gen.facts

/-- The operations up to dx split into blocks, and those after. -/
abbrev headOps : List (HloOp τ sig (Elt Ideal)) := (hostOps0 : List (HloOp τ sig (Elt Ideal))).take 56
abbrev tailOps : List (HloOp τ sig (Elt Ideal)) :=
  (hostOps0 : List (HloOp τ sig (Elt Ideal))).drop 56 ++ (hostOps0_1 ++ (hostOps0_2 ++ (hostOps0_3 ++ hostOps0_4)))

theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

theorem toBuf_v72 (h₁ h₂ h₃) (v : (⟨S1536x56, .f32⟩ : BufTy).Contents (Elt Ideal)) :
    (StableHlo.TRef.of main_v72 h₁ h₂ h₃ : StableHlo.TRef sig (⟨S1536x56, .f32⟩ : BufTy)).toBuf v = v := rfl
theorem toBuf_v68 (h₁ h₂ h₃) (v : (⟨S1536x56x239, .f32⟩ : BufTy).Contents (Elt Ideal)) :
    (StableHlo.TRef.of main_v68 h₁ h₂ h₃ : StableHlo.TRef sig (⟨S1536x56x239, .f32⟩ : BufTy)).toBuf v = v := rfl
theorem ofBuf_v70 (h₁ h₂ h₃) (v : main_v70.ty.Contents (Elt Ideal)) :
    (StableHlo.TRef.of main_v70 h₁ h₂ h₃ : StableHlo.TRef sig (⟨S1536x56, .i1⟩ : BufTy)).ofBuf v = v := rfl
theorem ofBuf_v71 (h₁ h₂ h₃) (v : main_v71.ty.Contents (Elt Ideal)) :
    (StableHlo.TRef.of main_v71 h₁ h₂ h₃ : StableHlo.TRef sig (⟨S1536x56, .f32⟩ : BufTy)).ofBuf v = v := rfl
theorem ofBuf_v67 (h₁ h₂ h₃) (v : main_v67.ty.Contents (Elt Ideal)) :
    (StableHlo.TRef.of main_v67 h₁ h₂ h₃ : StableHlo.TRef sig (⟨S1536x56x239, .i1⟩ : BufTy)).ofBuf v = v := rfl
theorem ofBuf_v62 (h₁ h₂ h₃) (v : main_v62.ty.Contents (Elt Ideal)) :
    (StableHlo.TRef.of main_v62 h₁ h₂ h₃ : StableHlo.TRef sig (⟨S239, .f32⟩ : BufTy)).ofBuf v = v := rfl
theorem ofBuf_cst_5 (h₁ h₂ h₃) (v : main_cst_5.ty.Contents (Elt Ideal)) :
    (StableHlo.TRef.of main_cst_5 h₁ h₂ h₃ : StableHlo.TRef sig (⟨S_, .f32⟩ : BufTy)).ofBuf v = v := rfl
theorem ofBuf_cst_8 (h₁ h₂ h₃) (v : main_cst_8.ty.Contents (Elt Ideal)) :
    (StableHlo.TRef.of main_cst_8 h₁ h₂ h₃ : StableHlo.TRef sig (⟨S_, .f32⟩ : BufTy)).ofBuf v = v := rfl

section Tail

variable (σ : Valuation τ sig (Elt Ideal))

theorem tail_scale : StableHlo.after tailOps σ (Proc.devRef .tc main_v72) = scaleOf (ratio (σ (Proc.devRef .tc main_v52))) := by
  after_reads_simp
  simp only [StableHlo.TRef.ofBuf_toBuf, id_eq, toBuf_v72, toBuf_v68, ofBuf_v70, ofBuf_v71, ofBuf_v67, ofBuf_v62, ofBuf_cst_5, ofBuf_cst_8]
  unfold scaleOf aboveOf powers ratio
  rfl

theorem tail_scales : StableHlo.after tailOps σ (Proc.devRef .tc main_v80) =
    scaleArray (StableHlo.after tailOps σ (Proc.devRef .tc main_v72)) := by
  after_reads_simp
  simp only [StableHlo.TRef.ofBuf_toBuf, id_eq, toBuf_v72, toBuf_v68, ofBuf_v70, ofBuf_v71, ofBuf_v67, ofBuf_v62, ofBuf_cst_5, ofBuf_cst_8]
  rfl

theorem tail_quot : StableHlo.after tailOps σ (Proc.devRef .tc main_v78) =
    quotient (σ (Proc.devRef .tc main_v52)) (StableHlo.after tailOps σ (Proc.devRef .tc main_v72)) := by
  after_reads_simp
  simp only [StableHlo.TRef.ofBuf_toBuf, id_eq, toBuf_v72, toBuf_v68, ofBuf_v70, ofBuf_v71, ofBuf_v67, ofBuf_v62, ofBuf_cst_5, ofBuf_cst_8]
  rfl

theorem tail_dgamma : StableHlo.after tailOps σ (Proc.devRef .tc main_v83) =
    colSums (mulf (σ (Proc.devRef .tc main_v3)) (σ (Proc.devRef .tc main_v13))) := by
  after_reads_simp
  rfl

theorem tail_dbeta : StableHlo.after tailOps σ (Proc.devRef .tc main_v85) = colSums (σ (Proc.devRef .tc main_v3)) := by
  after_reads_simp
  rfl

end Tail

variable (m : (ℓ : Loc nD τ sig) → Buf (Elt Ideal) ℓ) (c : Dev nD)

abbrev σ₁ : Valuation τ sig (Elt Ideal) := StableHlo.after headOps (fun b => m (c, b))

theorem V_eq (b : Ref sig .tc) : V m c b = StableHlo.after tailOps (σ₁ m c) (Proc.devRef .tc b) := by
  have e : List.flatten [hostOps0, hostOps0_1, hostOps0_2, hostOps0_3, hostOps0_4] = headOps ++ tailOps := by
    simp only [headOps, tailOps, List.flatten_cons, List.flatten_nil, List.append_nil, ← List.append_assoc, List.take_append_drop]
  unfold V
  rw [e, after_append]

theorem head_rows : σ₁ m c (Proc.devRef .tc main_v3) = rows (m ((c.tc : Thread nD τ).loc main_arg1)) := by
  after_reads_simp
  rfl
theorem head_xhat : σ₁ m c (Proc.devRef .tc main_v13) = xhat (m ((c.tc : Thread nD τ).loc main_arg0)) (m ((c.tc : Thread nD τ).loc main_arg2)) (m ((c.tc : Thread nD τ).loc main_arg3)) := by
  after_reads_simp
  rfl
theorem head_dx : σ₁ m c (Proc.devRef .tc main_v52) = blocked (refDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  after_reads_simp
  rfl

theorem V_dbeta : V m c main_v85 = dbetaTerm (m ((c.tc : Thread nD τ).loc main_arg1)) := by
  rw [V_eq, tail_dbeta, head_rows]; rfl
theorem V_dgamma : V m c main_v83 = dgammaTerm (m ((c.tc : Thread nD τ).loc main_arg0)) (m ((c.tc : Thread nD τ).loc main_arg1)) (m ((c.tc : Thread nD τ).loc main_arg2)) (m ((c.tc : Thread nD τ).loc main_arg3)) := by
  rw [V_eq, tail_dgamma, head_rows, head_xhat]; rfl
theorem V_scales : V m c main_v80 = refScales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [V_eq, tail_scales, tail_scale, head_dx]; rfl
theorem V_quot : V m c main_v78 = refQuot (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [V_eq, tail_quot, tail_scale, head_dx]; rfl

end Cert.ReferenceIdeal.Gen

end
-- ==== Proof.Kern.RefCodes.lean ====
/- The reference's kernel leaves the clamped quotients in its array. -/
module

public import proofs.«01_k».proof.Proof.Gen.ReferenceIdeal.Value
public import Idealize.ShloMosaic.Lib.Pipeline.ValueKit
public import Idealize.ShloMosaic.Lib.Pointwise

@[expose] public section

noncomputable section

namespace Cert.ReferenceIdeal.Gen

open Idealize.ShloMosaic Idealize.ShloMosaic.TcCoe Idealize.SL.Sem
open Idealize.ShloMosaic.Pipeline (Dat Cfg Window)

attribute [local instance] Cert.ReferenceIdeal.Gen.facts

variable (m : (ℓ : Loc nD τ sig) → Buf (Elt Ideal) ℓ) (c : Dev nD)

/-- A quotient, clamped. -/
def clamped (v : S1536x7168.Idx → EReal) (y : S1536x7168.Idx) : EReal :=
  min (Ideal.ofBits .f32 0x47600000#32) (max (Ideal.ofBits .f32 0xC7600000#32) (v y))

theorem index_in (t : Fin cfg0.N) : win0_0.index t = ![0, 0] := by revert t; decide +kernel
theorem index_out (t : Fin cfg0.N) : win0_1.index t = ![0, 0] := by revert t; decide +kernel

theorem load_apply (x0 : Vec Ideal S1536x7168 .f32) (p : Fin 1536) (q : Fin 7168) : View.ld x0 r0_0 (ix2 p q) = x0 (ix2 p q) := by
  refine congrArg x0 (funext fun a => Fin.ext ?_)
  fin_cases a
  · show 0 + 1 * p.val = p.val
    omega
  · show 0 + 1 * q.val = q.val
    omega

theorem out_apply (x0 : Vec Ideal S1536x7168 .f32) (p : Fin 1536) (q : Fin 7168) : out0_1 x0 (ix2 p q) = clamped x0 (ix2 p q) := by
  unfold out0_1
  rw [Value.canon1_eq]
  generalize hv : View.ld x0 r0_0 = v
  have hx : v = x0 := by
    rw [← hv]
    funext y
    obtain ⟨p, q, rfl⟩ : ∃ (p : Fin 1536) (q : Fin 7168), y = ix2 p q := ⟨y 0, y 1, eq_ix2 y⟩
    exact load_apply x0 p q
  rw [hx]
  have : Value.ix1_0 (ix2 p q) = ix2 p q := by
    funext a; fin_cases a <;> rfl
  unfold Value.E1 clamped
  rw [this]
  rfl

theorem iblk_apply (t : Fin cfg0.N) (p : Fin 1536) (q : Fin 7168) : iblk m c 0 t (ix2 p q) = V m c main_v78 (ix2 p q) := by
  have e : (win0_0.blk t).view.emb (ix2 p q) = (ix2 p q : S1536x7168.Idx) := by
    blk_ext [index_in t]
  unfold iblk
  generalize V m c = W
  exact congrArg (W main_v78) e

theorem after_apply (t : Fin cfg0.N) (p : Fin 1536) (q : Fin 7168) :
    (dats m 0 c).after 1 t (ix2 p q) = clamped (V m c main_v78) (ix2 p q) := by
  rw [after0_1]
  refine (out_apply (iblk m c 0 t) p q).trans ?_
  have h := iblk_apply m c t p q
  generalize V m c = W at h ⊢
  exact congrArg (fun z => min (Ideal.ofBits .f32 0x47600000#32) (max (Ideal.ofBits .f32 0xC7600000#32) z)) h

theorem final_codes : (dats m 0 c).arrAt 1 cfg0.N = clamped (V m c main_v78) := by
  refine (dats m 0 c).arrAt_eq_of_covers 1 _ (by decide +kernel) fun t hf y => ?_
  obtain ⟨p, q, rfl⟩ : ∃ (p : Fin 1536) (q : Fin 7168), y = ix2 p q := ⟨y 0, y 1, eq_ix2 y⟩
  blk_simp
  have e : (win0_1.blk t).view.emb (ix2 p q) = (ix2 p q : S1536x7168.Idx) := by
    blk_ext [index_out t]
  rw [e]
  exact after_apply m c t p q

end Cert.ReferenceIdeal.Gen

end
-- ==== Proof.Kern.Dx.lean ====
/- dx of one token, as the kernel and as the reference write it, and their equality over the reals. -/
module

public import proofs.«01_k».proof.Proof.Kern.Sums

@[expose] public section

noncomputable section

namespace LnBwd

open Idealize.ShloMosaic
open scoped BigOperators

/-- The kernel's dx at column `q` of block `j`, from a token's dy, x and gamma by block. -/
def kdx (dy x ga : Fin 56 → Fin 128 → EReal) (r m n pg0 pg1 px0 px1 : EReal) (j : Fin 56) (q : Fin 128) : EReal :=
  dy j q * r * ga j q - ((x j q - m) * (r * r * Ideal.div ((∑ b : Fin 128, ∑ a : Fin 56, dy a b * r * ga a b * (x a b - m)) + (px0 + px1)) n)
    + Ideal.div ((∑ b : Fin 128, ∑ a : Fin 56, dy a b * r * ga a b) + r * (pg0 + pg1)) n)

/-- The reference's dx at feature `e`. -/
def rdx (dy x ga : Fin 7168 → EReal) (r m n pg0 pg1 px0 px1 : EReal) (e : Fin 7168) : EReal :=
  r * ((dy e * ga e - Ideal.div (pg0 + (∑ k, dy k * ga k) + pg1) n)
    - (x e - m) * r * Ideal.div (px0 + (∑ k, dy k * ga k * ((x k - m) * r)) + px1) n)

/-- Feature `q` of block `j`. -/
def feat (j : Fin 56) (q : Fin 128) : Fin 7168 := ⟨128 * j.val + q.val, by omega⟩

theorem sum_feat (f : Fin 7168 → ℝ) : ∑ k, f k = ∑ b : Fin 128, ∑ a : Fin 56, f (feat a b) := by
  let g : ℕ → ℝ := fun k => if h : k < 7168 then f ⟨k, h⟩ else 0
  have e : ∑ k, f k = ∑ k ∈ Finset.range (128 * 56), g k := by
    rw [Finset.sum_range]
    refine Finset.sum_congr rfl fun k _ => ?_
    show f k = if h : k.val < 7168 then f ⟨k.val, h⟩ else 0
    rw [dif_pos k.isLt]
  rw [e, sum_range_mul g 128 56, Finset.sum_comm, Finset.sum_range]
  refine Finset.sum_congr rfl fun b _ => ?_
  rw [Finset.sum_range]
  exact Finset.sum_congr rfl fun a _ => dif_pos (feat a b).isLt

theorem coe_sum {ι : Type} [Fintype ι] (f : ι → ℝ) : ((∑ k, f k : ℝ) : EReal) = ∑ k, (f k : EReal) :=
  map_sum (⟨⟨Real.toEReal, EReal.coe_zero⟩, EReal.coe_add⟩ : ℝ →+ EReal) f Finset.univ

theorem dx_eq (dy x ga : Fin 7168 → ℝ) (r m n pg0 pg1 px0 px1 : ℝ) (hn : n ≠ 0) (j : Fin 56) (q : Fin 128) :
    kdx (fun a b => dy (feat a b)) (fun a b => x (feat a b)) (fun a b => ga (feat a b)) r m n pg0 pg1 px0 px1 j q
      = rdx (fun e => dy e) (fun e => x e) (fun e => ga e) r m n pg0 pg1 px0 px1 (feat j q) := by
  unfold kdx rdx
  rw [Ideal.div_coe hn, Ideal.div_coe hn, Ideal.div_coe hn, Ideal.div_coe hn]
  simp only [← EReal.coe_mul, ← EReal.coe_sub, ← EReal.coe_add, ← coe_sum]
  refine congrArg _ ?_
  rw [sum_feat, sum_feat]
  have h1 : ∑ b : Fin 128, ∑ a : Fin 56, dy (feat a b) * r * ga (feat a b) = r * ∑ b : Fin 128, ∑ a : Fin 56, dy (feat a b) * ga (feat a b) := by
    simp only [Finset.mul_sum]
    exact Finset.sum_congr rfl fun b _ => Finset.sum_congr rfl fun a _ => by ring
  have h2 : ∑ b : Fin 128, ∑ a : Fin 56, dy (feat a b) * ga (feat a b) * ((x (feat a b) - m) * r)
      = ∑ b : Fin 128, ∑ a : Fin 56, dy (feat a b) * r * ga (feat a b) * (x (feat a b) - m) :=
    Finset.sum_congr rfl fun b _ => Finset.sum_congr rfl fun a _ => by ring
  rw [h1, h2]
  ring

variable (W : Ins Ideal) (s : Fin 4) (j : Fin 56)

theorem sumTo_apply (f : Fin 56 → FVec Ideal S32x128 .f32) (p : Fin 32) (q : Fin 128) :
    sumTo f 56 (ix2 p q) = ∑ a : Fin 56, f a (ix2 p q) := by
  have h : ∀ n : ℕ, n ≤ 56 → sumTo f n (ix2 p q) = ∑ a ∈ Finset.range n, (if h : a < 56 then f ⟨a, h⟩ (ix2 p q) else (0 : EReal)) := fun n => by
    induction n with
    | zero =>
      intro _
      rw [Finset.sum_range_zero, sumTo]
      pointwise [zeros32]
    | succ n ih =>
      intro hn
      rw [Finset.sum_range_succ, ← ih (by omega), dif_pos (by omega : n < 56), sumTo, dif_pos (by omega : n < 56)]
      rfl
  rw [h 56 le_rfl, Finset.sum_range]
  exact Finset.sum_congr rfl fun a _ => dif_pos a.isLt

/-- Row `p` of row group `s`. -/
def rowOf (p : Fin 32) : Fin 128 := ⟨32 * s.val + p.val, by omega⟩

theorem pgG_apply (p : Fin 32) (q : Fin 128) :
    group s W.pgc (ix2 p q) = (W.pg (ix3 0 0 (rowOf s p)) + W.pg (ix3 0 1 (rowOf s p)) : EReal) := by
  pointwise [Ins.pgc, group, column, peerRow, tokRow]
  refine congrArg₂ _ (congrArg W.pg (funext fun a => Fin.ext ?_)) (congrArg W.pg (funext fun a => Fin.ext ?_)) <;>
  fin_cases a <;> (rw [Rect.emb_apply]; simp [ix3, rowOf])

theorem pgxG_apply (p : Fin 32) (q : Fin 128) :
    group s W.pgxc (ix2 p q) = (W.pgx (ix3 0 0 (rowOf s p)) + W.pgx (ix3 0 1 (rowOf s p)) : EReal) := by
  pointwise [Ins.pgxc, group, column, peerRow, tokRow]
  refine congrArg₂ _ (congrArg W.pgx (funext fun a => Fin.ext ?_)) (congrArg W.pgx (funext fun a => Fin.ext ?_)) <;>
  fin_cases a <;> (rw [Rect.emb_apply]; simp [ix3, rowOf])

theorem gaG_apply (p : Fin 32) (q : Fin 128) : gammaRow (fun y => W.gamma ((rRow j).emb y)) (ix2 p q) = W.gamma (ix2 j q) := by
  pointwise [gammaRow]
  refine congrArg W.gamma (funext fun a => Fin.ext ?_)
  fin_cases a <;> (rw [Rect.emb_apply]; simp [ix2])

theorem gB_apply (p : Fin 32) (q : Fin 128) :
    W.gB s j (ix2 p q) = (W.dy (ix2 (rowOf s p) (feat j q)) * W.rstd (ix3 0 0 (rowOf s p)) * W.gamma (ix2 j q) : EReal) := by
  show (W.dyB s j (ix2 p q) * group s W.r (ix2 p q) * gammaRow (fun y => W.gamma ((rRow j).emb y)) (ix2 p q) : EReal) = _
  rw [dyB_apply, rG_apply, gaG_apply]
  rfl

theorem xcB_apply (p : Fin 32) (q : Fin 128) :
    W.xcB s j (ix2 p q) = (W.x (ix2 (rowOf s p) (feat j q)) - W.mean (ix3 0 0 (rowOf s p)) : EReal) := by
  show ((wide fun y => W.x ((rRows s j).emb y)) (ix2 p q) - group s W.m (ix2 p q) : EReal) = _
  rw [xB_apply, mG_apply]
  rfl

/-- Block `j` of row group `s` of dx, at an element. -/
theorem dxB_apply (p : Fin 32) (q : Fin 128) :
    W.dxB s j (ix2 p q) = kdx (fun a b => W.dy (ix2 (rowOf s p) (feat a b))) (fun a b => W.x (ix2 (rowOf s p) (feat a b)))
      (fun a b => W.gamma (ix2 a b)) (W.rstd (ix3 0 0 (rowOf s p))) (W.mean (ix3 0 0 (rowOf s p))) W.n
      (W.pg (ix3 0 0 (rowOf s p))) (W.pg (ix3 0 1 (rowOf s p))) (W.pgx (ix3 0 0 (rowOf s p))) (W.pgx (ix3 0 1 (rowOf s p))) j q := by
  have h1 : W.c1 s (ix2 p q) = Ideal.div ((∑ b : Fin 128, sumTo (W.gB s) 56 (ix2 p b)) + group s W.r (ix2 p q) * group s W.pgc (ix2 p q) : EReal) W.n := by
    unfold Ins.c1
    generalize sumTo (W.gB s) 56 = u
    generalize group s W.r = u'
    generalize group s W.pgc = u''
    generalize W.n = u'''
    pointwise [coeff1, lanes, rowSum]
  have h2 : W.c2 s (ix2 p q) = (group s W.r (ix2 p q) * group s W.r (ix2 p q) : EReal) * Ideal.div ((∑ b : Fin 128, sumTo (W.gxB s) 56 (ix2 p b)) + group s W.pgxc (ix2 p q) : EReal) W.n := by
    unfold Ins.c2
    generalize sumTo (W.gxB s) 56 = u
    generalize group s W.r = u'
    generalize group s W.pgxc = u''
    generalize W.n = u'''
    pointwise [coeff2, lanes, rowSum]
  have h : W.dxB s j (ix2 p q) = (W.gB s j (ix2 p q) - (W.xcB s j (ix2 p q) * W.c2 s (ix2 p q) + W.c1 s (ix2 p q)) : EReal) := by
    unfold Ins.dxB
    generalize W.gB s j = u
    generalize W.xcB s j = u'
    generalize W.c1 s = u''
    generalize W.c2 s = u'''
    pointwise [dxOf, same32]
  rw [h, h1, h2]
  simp only [sumTo_apply]
  have hx : ∀ (a : Fin 56) (b : Fin 128), W.gxB s a (ix2 p b) = (W.gB s a (ix2 p b) * W.xcB s a (ix2 p b) : EReal) := fun _ _ => rfl
  simp only [hx, gB_apply, xcB_apply, rG_apply, pgG_apply, pgxG_apply]
  rfl

end LnBwd

end
-- ==== Proof.Kern.Quant.lean ====
/- The scale of a block as a real number: the smallest power of two above `t`, found by counting the powers of two that
   `t` has reached, and found as a minimum over the powers of two. -/
module

public import Idealize.ShloMosaic.PureOps.Ideal
public import Idealize.ShloMosaic.PureOps.Ideal.Laws

@[expose] public section

noncomputable section

namespace LnBwd

open Idealize.ShloMosaic
open scoped BigOperators

/-- The power of two with exponent field `f`. -/
def pw (f : ℕ) : EReal := (((2 : ℝ) ^ ((f : ℤ) - 127) : ℝ) : EReal)

theorem pw_strictMono : StrictMono pw := fun a b h =>
  EReal.coe_lt_coe_iff.mpr (zpow_lt_zpow_right₀ (by norm_num) (by omega))
theorem pw_pos (f : ℕ) : 0 < pw f := EReal.coe_pos.mpr (by positivity)
theorem pw_lt_top (f : ℕ) : pw f < ⊤ := EReal.coe_lt_top _

/-- How many of the powers of two with fields 1 … 239 `t` has reached. -/
def cnt (t : EReal) : ℕ := ∑ k ∈ Finset.range 239, if pw (k + 1) ≤ t then 1 else 0

/-- The places a falling property holds at are the first ones, as many as there are. -/
theorem count_initial (p : ℕ → Prop) [DecidablePred p] (hp : ∀ a b, a ≤ b → p b → p a) :
    ∀ n, (∑ k ∈ Finset.range n, if p k then 1 else 0) ≤ n ∧ ∀ k, k < n → (p k ↔ k < ∑ k ∈ Finset.range n, if p k then 1 else 0)
  | 0 => ⟨by simp, fun k h => absurd h (by omega)⟩
  | n + 1 => by
    obtain ⟨h1, h2⟩ := count_initial p hp n
    rw [Finset.sum_range_succ]
    generalize (∑ k ∈ Finset.range n, if p k then 1 else 0) = c at h1 h2 ⊢
    by_cases hn : p n
    · have hc : c = n := by
        by_contra hne
        exact absurd ((h2 c (by omega)).mp (hp c n h1 hn)) (lt_irrefl _)
      subst hc
      rw [if_pos hn]
      exact ⟨le_refl _, fun k hk => ⟨fun _ => hk, fun _ => hp k c (by omega) hn⟩⟩
    · rw [if_neg hn, Nat.add_zero]
      refine ⟨by omega, fun k hk => ?_⟩
      rcases Nat.lt_or_ge k n with h | h
      · exact h2 k h
      · obtain rfl : k = n := by omega
        exact ⟨fun h => absurd h hn, fun h => absurd h (by omega)⟩

theorem cnt_le (t : EReal) : cnt t ≤ 239 :=
  (count_initial (fun k => pw (k + 1) ≤ t) (fun _ _ h hb => (pw_strictMono.monotone (by omega)).trans hb) 239).1
theorem cnt_iff (t : EReal) (k : ℕ) (hk : k < 239) : pw (k + 1) ≤ t ↔ k < cnt t :=
  (count_initial (fun k => pw (k + 1) ≤ t) (fun _ _ h hb => (pw_strictMono.monotone (by omega)).trans hb) 239).2 k hk

/-- The exponent field of the scale, of a `t` with exponent field `f`. -/
def scField (f : ℕ) : ℕ := if f = 0 then 127 else f + 1

/-- The scale as a minimum. -/
theorem min_scale (t : EReal) :
    (if t < pw 1 then 1 else (Finset.univ : Finset (Fin 239)).fold min ⊤ fun k => if t < pw (k.val + 2) then pw (k.val + 2) else pw 240)
      = pw (scField (cnt t)) := by
  have h0 := cnt_iff t 0 (by omega)
  have hle := cnt_le t
  by_cases hc : cnt t = 0
  · rw [if_pos (not_le.mp fun h => by have := h0.mp h; omega), hc]
    simp [scField, pw]
  · have hpos : 0 < cnt t := by omega
    rw [if_neg (not_lt.mpr (h0.mpr hpos)), scField, if_neg hc]
    refine le_antisymm ?_ ?_
    · refine (Finset.fold_min_le _).mpr (.inr ⟨⟨cnt t - 1, by omega⟩, Finset.mem_univ _, ?_⟩)
      show (if t < pw (cnt t - 1 + 2) then pw (cnt t - 1 + 2) else pw 240) ≤ _
      rw [show cnt t - 1 + 2 = cnt t + 1 by omega]
      split
      · exact le_refl _
      · rename_i h
        by_contra hne
        have : cnt t < 239 := by
          rcases Nat.lt_or_ge (cnt t) 239 with h' | h'
          · exact h'
          · exact absurd (by rw [show cnt t = 239 by omega]) hne
        exact absurd ((cnt_iff t (cnt t) this).mp (not_lt.mp h)) (lt_irrefl _)
    · refine (Finset.le_fold_min _).mpr ⟨le_top, fun k _ => ?_⟩
      split
      · rename_i h
        refine pw_strictMono.monotone ?_
        by_contra hk
        refine absurd h (not_lt.mpr ?_)
        exact (cnt_iff t (k.val + 1) (by omega)).mpr (by omega)
      · exact pw_strictMono.monotone (by omega)

/-- The bits of an exponent field, as a number. -/
theorem field_bits : ∀ f : Fin 255, ((BitVec.ofNat 32 f.val <<< 23).extractLsb' 31 1 = 0#1)
    ∧ ((BitVec.ofNat 32 f.val <<< 23).extractLsb' 23 8).toNat = f.val ∧ ((BitVec.ofNat 32 f.val <<< 23).extractLsb' 0 23).toNat = 0 := by
  decide +kernel
/-- A positive normal pattern without a significand. -/
theorem ieee_field (b : BitVec 32) (f : ℕ) (h0 : 0 < f) (h : f < 255) (h1 : b.extractLsb' 31 1 = 0#1)
    (h2 : (b.extractLsb' 23 8).toNat = f) (h3 : (b.extractLsb' 0 23).toNat = 0) : Ideal.ieee 8 23 b = pw f := by
  have e : Ideal.ieee 8 23 b = if (b.extractLsb' 23 8).toNat = 2 ^ 8 - 1 then (if (b.extractLsb' 0 23).toNat = 0 then (if (b.extractLsb' 31 1 == 1#1) then ⊥ else ⊤) else ⊥)
      else if (b.extractLsb' 23 8).toNat = 0 then (((if (b.extractLsb' 31 1 == 1#1) then (-1 : ℝ) else 1) * (b.extractLsb' 0 23).toNat * (2 : ℝ) ^ (1 - ((2 ^ (8 - 1) - 1 : Int)) - (23 : ℕ) : Int) : ℝ) : EReal)
      else (((if (b.extractLsb' 31 1 == 1#1) then (-1 : ℝ) else 1) * (2 ^ 23 + (b.extractLsb' 0 23).toNat : ℕ) * (2 : ℝ) ^ (((b.extractLsb' 23 8).toNat : Int) - (2 ^ (8 - 1) - 1 : Int) - (23 : ℕ)) : ℝ) : EReal) := rfl
  rw [e, h1, h2, h3, if_neg (by omega), if_neg (by omega), pw]
  refine congrArg _ ?_
  have : (2 : ℝ) ^ ((f : ℤ) - 127) = (2 : ℝ) ^ (23 : ℤ) * (2 : ℝ) ^ ((f : ℤ) - (2 ^ (8 - 1) - 1) - (23 : ℕ)) := by
    rw [← zpow_add₀ (by norm_num)]
    congr 1
    norm_num
  rw [this]
  norm_num
theorem ofBits_field (f : ℕ) (h0 : 0 < f) (h : f < 255) : Ideal.ofBits .f32 (BitVec.ofNat 32 f <<< 23) = pw f := by
  obtain ⟨h1, h2, h3⟩ := field_bits ⟨f, h⟩
  exact ieee_field _ f h0 h h1 h2 h3

/-- The inverse of a power of two. -/
theorem one_div_pw (f : ℕ) (h : f ≤ 254) : Ideal.div 1 (pw f) = pw (254 - f) := by
  unfold pw
  rw [Ideal.div_coe (by positivity), one_mul]
  refine congrArg _ ?_
  rw [one_div, ← zpow_neg]
  congr 1
  omega

/-- A count as a float and back as an integer. -/
theorem fptosi_nat (n : ℕ) (h : n ≤ 239) : Ideal.fptosi 32 ((n : ℝ) : EReal) = BitVec.ofNat 32 n := by
  rw [Ideal.fptosi, Ideal.toIntClamped_coe, if_pos (Nat.cast_nonneg n), Int.floor_natCast,
    min_eq_right (by norm_num; omega), max_eq_right (by norm_num)]
  exact BitVec.ofInt_natCast 32 n

end LnBwd

end
-- ==== Proof.Kern.Scale.lean ====
/- The quantiser of the kernel on a block's row: its scale and its codes as functions of the row's largest magnitude. -/
module

public import proofs.«01_k».proof.Proof.Kern.Quant
public import proofs.«01_k».proof.Proof.Kern.Sums

@[expose] public section

noncomputable section

namespace LnBwd

open Idealize.ShloMosaic
open scoped BigOperators

/-- A row's largest magnitude over 57344. -/
def ratioOf (f : Fin 128 → EReal) : EReal :=
  Finset.fold max (Ideal.ofBits .f32 0xFF800000#32) (fun x => max (f x) (-(f x))) Finset.univ * Ideal.ofBits .f32 0x37924925#32
/-- A code, of a value and the exponent field of its block's scale. -/
def codeOf (v : EReal) (f : ℕ) : EReal :=
  min (Ideal.ofBits .f32 0x47600000#32) (max (Ideal.ofBits .f32 0xC7600000#32) (v * pw (254 - f)))

theorem ofBits_top : Ideal.ofBits .f32 0x7F800000#32 = ⊤ := by simp [Ideal.ofBits, Ideal.ieee]

theorem amax_apply (v : FVec Ideal S32x128 .f32) (p : Fin 32) (q : Fin 128) :
    amaxScaled v (ix2 p q) = ratioOf fun k => v (ix2 p k) := by
  pointwise [amaxScaled, lanes', lanes]
  rfl

theorem lowPow_bits : ∀ q : Fin 128, IntOp.shli ArithUnit.vector (IntOp.addi (BitVec.ofNat 32 q.val) 1#32) 23#32 = BitVec.ofNat 32 (q.val + 1) <<< 23 := by
  decide +kernel
theorem highPow_bits : ∀ q : Fin 128, IntOp.shli ArithUnit.vector
      (Scalar.select (IntOp.cmpi CmpIPredicate.slt (BitVec.ofNat 32 q.val) 111#32)
        (IntOp.addi (BitVec.ofNat 32 q.val) 129#32) 255#32) 23#32
    = if q.val < 111 then BitVec.ofNat 32 (q.val + 129) <<< 23 else 0x7F800000#32 := by
  decide +kernel
theorem scale_bits : ∀ f : Fin 240, IntOp.shli ArithUnit.vector (IntOp.addi
      (Scalar.select (IntOp.cmpi CmpIPredicate.eq (BitVec.ofNat 32 f.val) 0#32) (0#32) (IntOp.subi (BitVec.ofNat 32 f.val) 126#32)) 127#32) 23#32
    = BitVec.ofNat 32 (scField f.val) <<< 23 := by
  decide +kernel
theorem inverse_bits : ∀ f : Fin 240, IntOp.shli ArithUnit.vector (IntOp.addi (IntOp.subi (0#32)
      (Scalar.select (IntOp.cmpi CmpIPredicate.eq (BitVec.ofNat 32 f.val) 0#32) (0#32) (IntOp.subi (BitVec.ofNat 32 f.val) 126#32))) 127#32) 23#32
    = BitVec.ofNat 32 (254 - scField f.val) <<< 23 := by
  decide +kernel

theorem lowPow_apply (p : Fin 32) (q : Fin 128) : lowPow (F := Ideal) (ix2 p q) = pw (q.val + 1) := by
  pointwise [lowPow, lane]
  rw [lowPow_bits, ofBits_field _ (by omega) (by omega)]

theorem highPow_apply (p : Fin 32) (q : Fin 128) : highPow (F := Ideal) (ix2 p q) = if q.val < 111 then pw (q.val + 129) else ⊤ := by
  pointwise [highPow, lane]
  rw [highPow_bits]
  split
  · exact ofBits_field _ (by omega) (by omega)
  · exact ofBits_top

theorem sum_lanes (g : ℕ → ℕ) :
    ∑ x : Fin 128, (g x.val + if x.val < 111 then g (x.val + 128) else 0) = ∑ k ∈ Finset.range 239, g k := by
  have h : ∑ k ∈ Finset.range 128, (if k < 111 then g (k + 128) else 0) = ∑ k ∈ Finset.range 111, g (128 + k) := by
    rw [← Finset.sum_filter, show (Finset.range 128).filter (· < 111) = Finset.range 111 from by
      ext k; simp only [Finset.mem_filter, Finset.mem_range]; omega]
    exact Finset.sum_congr rfl fun k _ => congrArg g (Nat.add_comm k 128)
  rw [Finset.sum_add_distrib, Fin.sum_univ_eq_sum_range (fun k => g k) 128,
    Fin.sum_univ_eq_sum_range (fun k => if k < 111 then g (k + 128) else 0) 128, h, ← Finset.sum_range_add]

/-- The two comparisons of every lane count what `τ` has reached. -/
theorem count_lanes (τ : EReal) (h : τ ≠ ⊤) :
    (∑ x : Fin 128, ((if pw (x.val + 1) ≤ τ then 1 else 0) + if (if x.val < 111 then pw (x.val + 129) else ⊤) ≤ τ then 1 else 0) : EReal)
      = ((cnt τ : ℝ) : EReal) := by
  have ht : ¬ ⊤ ≤ τ := fun h' => h (top_le_iff.mp h')
  have e : ∀ x : Fin 128, ((if pw (x.val + 1) ≤ τ then 1 else 0) + if (if x.val < 111 then pw (x.val + 129) else ⊤) ≤ τ then 1 else 0 : EReal)
      = (((fun k => if pw (k + 1) ≤ τ then 1 else 0) x.val + (if x.val < 111 then (fun k => if pw (k + 1) ≤ τ then 1 else 0) (x.val + 128) else 0) : ℕ) : EReal) := fun x => by
    by_cases hx : x.val < 111
    · rw [if_pos hx, if_pos hx]
      show _ = (((if pw (x.val + 1) ≤ τ then 1 else 0) + (if pw (x.val + 129) ≤ τ then 1 else 0) : ℕ) : EReal)
      split <;> split <;> norm_num
    · rw [if_neg hx, if_neg hx, if_neg ht]
      show _ = (((if pw (x.val + 1) ≤ τ then 1 else 0) + 0 : ℕ) : EReal)
      split <;> norm_num
  rw [Finset.sum_congr rfl fun x _ => e x, ← Nat.cast_sum, sum_lanes (fun k => if pw (k + 1) ≤ τ then 1 else 0), EReal.coe_natCast]
  rfl

theorem field_apply (t : FVec Ideal S32x128 .f32) (p : Fin 32) (q : Fin 128) (τ : EReal) (ht : ∀ k, t (ix2 p k) = τ) (h : τ ≠ ⊤) :
    field t (ix2 p q) = BitVec.ofNat 32 (cnt τ) := by
  have e : field t (ix2 p q) = Ideal.fptosi 32 (∑ x : Fin 128, ((if lowPow (F := Ideal) (ix2 p x) ≤ t (ix2 p x) then 1 else 0) + if highPow (F := Ideal) (ix2 p x) ≤ t (ix2 p x) then 1 else 0) : EReal) := by
    pointwise [field, lanes', lanes, rowSum, oneIf]
    rfl
  rw [e]
  simp only [lowPow_apply, highPow_apply, ht]
  rw [count_lanes τ h, fptosi_nat _ (cnt_le τ)]

theorem scale_apply (t : FVec Ideal S32x128 .f32) (p : Fin 32) (q : Fin 128) (τ : EReal) (ht : ∀ k, t (ix2 p k) = τ) (h : τ ≠ ⊤) :
    pow2 (F := Ideal) (expo t) (ix2 p q) = pw (scField (cnt τ)) := by
  have hf := field_apply t p q τ ht h
  have hle := cnt_le τ
  unfold expo
  generalize field t = w at hf ⊢
  pointwise [pow2]
  rw [hf, scale_bits ⟨cnt τ, by omega⟩]
  exact ofBits_field _ (by unfold scField; split <;> omega) (by show scField (cnt τ) < 255; unfold scField; split <;> omega)

theorem codes_apply (v : FVec Ideal S32x128 .f32) (p : Fin 32) (q : Fin 128) (h : ratioOf (fun k => v (ix2 p k)) ≠ ⊤) :
    codesOf (F := Ideal) v (ix2 p q) = codeOf (v (ix2 p q)) (scField (cnt (ratioOf fun k => v (ix2 p k)))) := by
  have hf := field_apply (amaxScaled v) p q _ (fun k => amax_apply v p k) h
  have hle := cnt_le (ratioOf fun k => v (ix2 p k))
  unfold codesOf expo codeOf
  generalize field (amaxScaled v) = w at hf ⊢
  generalize (ratioOf fun k => v (ix2 p k)) = τ at hf hle ⊢
  pointwise [pow2]
  rw [hf, inverse_bits ⟨cnt τ, by omega⟩, ofBits_field]
  · show 0 < 254 - scField (cnt τ)
    unfold scField; split <;> omega
  · show 254 - scField (cnt τ) < 255
    omega

theorem scales_apply (v : FVec Ideal S32x128 .f32) (p : Fin 32) (q : Fin 1) (h : ratioOf (fun k => v (ix2 p k)) ≠ ⊤) :
    scalesOf (F := Ideal) v (ix2 p q) = pw (scField (cnt (ratioOf fun k => v (ix2 p k)))) := by
  rw [← scale_apply (amaxScaled v) p 0 _ (fun k => amax_apply v p k) h]
  unfold scalesOf
  generalize (pow2 (F := Ideal) (expo (amaxScaled v))) = e
  pointwise []

end LnBwd

end
-- ==== Proof.Kern.Mask.lean ====
/- Where the mask holds, the token's inputs are real numbers and the total count is not zero. -/
module

public import proofs.«01_k».proof.On_finite_tokens
public import proofs.«01_k».proof.Proof.Kern.Dx
public import proofs.«01_k».proof.Proof.Kern.Scale
public import Idealize.ShloMosaic.Lib.Decide
public import Idealize.ShloMosaic.Lib.Pointwise

@[expose] public section

noncomputable section

namespace Cert.On_finite_tokens

open Idealize.ShloMosaic
open Facts
open scoped BigOperators

theorem facts : Cert.On_finite_tokens.Facts where
  bitsLt_bf16_f32 := by decide
  reducesTo_S6x256x7168_S6x256_d2 := by decide
  h_S_ := by decide
  reducesTo_S7168_S_d0 := by decide
  bcast_S_S6x256 := by decide
  reducesTo_S2_S_d0 := by decide
  reducesTo_S2x6x256_S6x256_d0 := by decide
  slices_S2_S1_0 := by decide
  shapeCasts_S1_S_ := by decide
  slices_S2_S1_1 := by decide
  bcast_S_S56x128 := by decide
  shapeCasts_S6x256_S1536x1 := by decide
  bcast_S1536x1_S1536x7168_0_1 := by decide
  bcast_S6x256_S6x1x256_0_2 := by decide
  bcast_S6x1x256_S6x56x256_0_1_2 := by decide

variable [Facts]

/-- Sums of a token's, the features', the counts' and the peers' values. -/
def tokenSum (u : FVec Ideal S6x256x7168 .f32) : FVec Ideal S6x256 .f32 :=
  Host.reduceAdd u (constant S_ .f32 0x00000000#32) reducesTo_S6x256x7168_S6x256_d2 h_S_
def featSum (u : FVec Ideal S7168 .f32) : FVec Ideal S_ .f32 :=
  Host.reduceAdd u (constant S_ .f32 0x00000000#32) reducesTo_S7168_S_d0 h_S_
def cntSum (u : FVec Ideal S2 .f32) : FVec Ideal S_ .f32 :=
  Host.reduceAdd u (constant S_ .f32 0x00000000#32) reducesTo_S2_S_d0 h_S_
def peerSum (u : FVec Ideal S2x6x256 .f32) : FVec Ideal S6x256 .f32 :=
  Host.reduceAdd u (constant S_ .f32 0x00000000#32) reducesTo_S2x6x256_S6x256_d0 h_S_
def everywhere (u : FVec Ideal S_ .f32) : FVec Ideal S6x256 .f32 := broadcastInDim S6x256 ![] bcast_S_S6x256 u
def total (n : FVec Ideal S2 .f32) : FVec Ideal S_ .f32 :=
  addf (addf (shapeCast S_ (extractStridedSlice S1 ![0] n slices_S2_S1_0) shapeCasts_S1_S_) (constant S_ .f32 0x45E00000#32))
    (shapeCast S_ (extractStridedSlice S1 ![1] n slices_S2_S1_1) shapeCasts_S1_S_)
def okOf (s : FVec Ideal S6x256 .f32) (n : FVec Ideal S_ .f32) : IVec S6x256 1 :=
  andi (cmpf .olt s (broadcastInDim S6x256 ![] bcast_S_S6x256 (constant S_ .f32 0x7F800000#32)))
    (broadcastInDim S6x256 ![] bcast_S_S6x256 (cmpf .une n (constant S_ .f32 0x00000000#32)))

theorem tokenSum_apply (u : FVec Ideal S6x256x7168 .f32) (b : Fin 6) (p : Fin 256) : tokenSum u (ix2 b p) = (∑ k : Fin 7168, u (ix3 b p k) : EReal) := by
  pointwise [tokenSum]
theorem featSum_apply (u : FVec Ideal S7168 .f32) : featSum u ix0 = (∑ k : Fin 7168, u (ix1 k) : EReal) := by
  pointwise [featSum]
theorem cntSum_apply (u : FVec Ideal S2 .f32) : cntSum u ix0 = (∑ k : Fin 2, u (ix1 k) : EReal) := by
  pointwise [cntSum]
theorem peerSum_apply (u : FVec Ideal S2x6x256 .f32) (b : Fin 6) (p : Fin 256) : peerSum u (ix2 b p) = (∑ k : Fin 2, u (ix3 k b p) : EReal) := by
  pointwise [peerSum]
theorem everywhere_apply (u : FVec Ideal S_ .f32) (b : Fin 6) (p : Fin 256) : everywhere u (ix2 b p) = u ix0 := by
  pointwise [everywhere]
theorem total_apply (v : FVec Ideal S2 .f32) : total v ix0 = (v (ix1 0) + Ideal.ofBits .f32 0x45E00000#32 + v (ix1 1) : EReal) := by
  pointwise [total]
theorem okOf_apply (s : FVec Ideal S6x256 .f32) (n : FVec Ideal S_ .f32) (b : Fin 6) (p : Fin 256) (h : okOf s n (ix2 b p) = 1#1) :
    (s (ix2 b p) : EReal) < ⊤ ∧ (n ix0 : EReal) ≠ 0 := by
  revert h
  pointwise [okOf]
  intro h
  rw [LnBwd.ofBits_top] at h
  by_cases h1 : (s (ix2 b p) : EReal) < ⊤
  · by_cases h2 : (n ix0 : EReal) ≠ 0
    · exact ⟨h1, h2⟩
    · rw [decide_eq_false h2, decide_eq_true h1] at h
      exact absurd h (by decide)
  · rw [decide_eq_false h1] at h
    exact absurd h (by cases decide ((n ix0 : EReal) ≠ 0) <;> decide)

variable (x dy : FVec Ideal S6x256x7168 .bf16) (mean rstd : FVec Ideal S6x256 .f32) (gamma : FVec Ideal S7168 .f32)
  (cn : FVec Ideal S2 .f32) (pg pgx : FVec Ideal S2x6x256 .f32)

def size : FVec Ideal S6x256 .f32 :=
  addf (addf (addf (addf (addf (addf (addf (tokenSum (Host.absf (extf .f32 x bitsLt_bf16_f32))) (tokenSum (Host.absf (extf .f32 dy bitsLt_bf16_f32)))) (Host.absf mean))
    (Host.absf rstd)) (everywhere (featSum (Host.absf gamma)))) (everywhere (cntSum (Host.absf cn)))) (peerSum (Host.absf pg))) (peerSum (Host.absf pgx))
def ok : IVec S6x256 1 := okOf (size x dy mean rstd gamma cn pg pgx) (total cn)

theorem fn_codes : (fn x dy mean rstd gamma cn pg pgx).1
    = broadcastInDim S1536x7168 ![0, 1] bcast_S1536x1_S1536x7168_0_1 (shapeCast S1536x1 (ok x dy mean rstd gamma cn pg pgx) shapeCasts_S6x256_S1536x1) := rfl
theorem fn_scales : (fn x dy mean rstd gamma cn pg pgx).2.1
    = broadcastInDim S6x56x256 ![0, 1, 2] bcast_S6x1x256_S6x56x256_0_1_2
      (broadcastInDim S6x1x256 ![0, 2] bcast_S6x256_S6x1x256_0_2 (ok x dy mean rstd gamma cn pg pgx)) := rfl
theorem codes_ok (n : Fin 1536) (e : Fin 7168) : (fn x dy mean rstd gamma cn pg pgx).1 (ix2 n e)
    = ok x dy mean rstd gamma cn pg pgx (ix2 ⟨n.val / 256, by omega⟩ ⟨n.val % 256, by omega⟩) := by
  rw [fn_codes]
  generalize ok x dy mean rstd gamma cn pg pgx = u
  pointwise
theorem scales_ok (b : Fin 6) (j : Fin 56) (p : Fin 256) : (fn x dy mean rstd gamma cn pg pgx).2.1 (ix3 b j p)
    = ok x dy mean rstd gamma cn pg pgx (ix2 b p) := by
  rw [fn_scales]
  generalize ok x dy mean rstd gamma cn pg pgx = u
  pointwise

/-- A magnitude. -/
def mag (a : EReal) : EReal := max a (-a)

theorem mag_nonneg (a : EReal) : 0 ≤ mag a := by
  rcases le_total 0 a with h | h
  · exact le_max_of_le_left h
  · exact le_max_of_le_right (EReal.neg_nonneg.mpr h)
theorem real_of_mag (a : EReal) (h : mag a < ⊤) : ∃ z : ℝ, a = z := by
  unfold mag at h
  obtain ⟨h1, h2⟩ := max_lt_iff.mp h
  induction a with
  | bot => simp at h2
  | top => simp at h1
  | coe z => exact ⟨z, rfl⟩
theorem add_lt {a b : EReal} (ha : 0 ≤ a) (hb : 0 ≤ b) (h : a + b < ⊤) : a < ⊤ ∧ b < ⊤ :=
  ⟨lt_of_le_of_lt (le_add_of_nonneg_right hb) h, lt_of_le_of_lt (le_add_of_nonneg_left ha) h⟩
theorem sum_nonneg' {ι : Type} [Fintype ι] (f : ι → EReal) : 0 ≤ ∑ k, mag (f k) := Finset.sum_nonneg fun k _ => mag_nonneg _
theorem real_of_sum {ι : Type} [Fintype ι] (f : ι → EReal) (h : ∑ k, mag (f k) < ⊤) (k : ι) : ∃ z : ℝ, f k = z :=
  real_of_mag _ (lt_of_le_of_lt (Finset.single_le_sum (f := fun k => mag (f k)) (fun k _ => mag_nonneg _) (Finset.mem_univ k)) h)

theorem size_apply (b : Fin 6) (p : Fin 256) : size x dy mean rstd gamma cn pg pgx (ix2 b p)
    = ((∑ k : Fin 7168, mag (x (ix3 b p k))) + (∑ k : Fin 7168, mag (dy (ix3 b p k))) + mag (mean (ix2 b p)) + mag (rstd (ix2 b p))
      + (∑ k : Fin 7168, mag (gamma (ix1 k))) + (∑ k : Fin 2, mag (cn (ix1 k))) + (∑ k : Fin 2, mag (pg (ix3 k b p))) + (∑ k : Fin 2, mag (pgx (ix3 k b p))) : EReal) := by
  have h : size x dy mean rstd gamma cn pg pgx (ix2 b p) = (tokenSum (Host.absf (extf .f32 x bitsLt_bf16_f32)) (ix2 b p)
      + tokenSum (Host.absf (extf .f32 dy bitsLt_bf16_f32)) (ix2 b p) + mag (mean (ix2 b p)) + mag (rstd (ix2 b p))
      + everywhere (featSum (Host.absf gamma)) (ix2 b p) + everywhere (cntSum (Host.absf cn)) (ix2 b p)
      + peerSum (Host.absf pg) (ix2 b p) + peerSum (Host.absf pgx) (ix2 b p) : EReal) := rfl
  rw [h, tokenSum_apply, tokenSum_apply, everywhere_apply, everywhere_apply, featSum_apply, cntSum_apply, peerSum_apply, peerSum_apply]
  rfl

/-- A token of real inputs, and a total count other than zero. -/
structure FiniteToken (dy x ga : Fin 7168 → EReal) (r m n pg0 pg1 px0 px1 : EReal) : Prop where
  real_dy : ∀ k, ∃ z : ℝ, dy k = z
  real_x : ∀ k, ∃ z : ℝ, x k = z
  real_ga : ∀ k, ∃ z : ℝ, ga k = z
  real_r : ∃ z : ℝ, r = z
  real_m : ∃ z : ℝ, m = z
  real_n : ∃ z : ℝ, n = z
  real_pg0 : ∃ z : ℝ, pg0 = z
  real_pg1 : ∃ z : ℝ, pg1 = z
  real_px0 : ∃ z : ℝ, px0 = z
  real_px1 : ∃ z : ℝ, px1 = z
  n_ne : n ≠ 0

theorem finite_of_ok (b : Fin 6) (p : Fin 256) (h : ok x dy mean rstd gamma cn pg pgx (ix2 b p) = 1#1) :
    FiniteToken (fun k => dy (ix3 b p k)) (fun k => x (ix3 b p k)) (fun k => gamma (ix1 k)) (rstd (ix2 b p)) (mean (ix2 b p))
      (cn (ix1 0) + Ideal.ofBits .f32 0x45E00000#32 + cn (ix1 1) : EReal)
      (pg (ix3 0 b p)) (pg (ix3 1 b p)) (pgx (ix3 0 b p)) (pgx (ix3 1 b p)) := by
  obtain ⟨h, hn⟩ := okOf_apply _ _ b p h
  rw [size_apply] at h
  rw [total_apply] at hn
  have n0 := sum_nonneg' fun k : Fin 7168 => (x (ix3 b p k) : EReal)
  have n1 := sum_nonneg' fun k : Fin 7168 => (dy (ix3 b p k) : EReal)
  have n2 := mag_nonneg (mean (ix2 b p))
  have n3 := mag_nonneg (rstd (ix2 b p))
  have n4 := sum_nonneg' fun k : Fin 7168 => (gamma (ix1 k) : EReal)
  have n5 := sum_nonneg' fun k : Fin 2 => (cn (ix1 k) : EReal)
  have n6 := sum_nonneg' fun k : Fin 2 => (pg (ix3 k b p) : EReal)
  have n7 := sum_nonneg' fun k : Fin 2 => (pgx (ix3 k b p) : EReal)
  have a1 := add_nonneg n0 n1
  have a2 := add_nonneg a1 n2
  have a3 := add_nonneg a2 n3
  have a4 := add_nonneg a3 n4
  have a5 := add_nonneg a4 n5
  have a6 := add_nonneg a5 n6
  obtain ⟨h, h7⟩ := add_lt a6 n7 h
  obtain ⟨h, h6⟩ := add_lt a5 n6 h
  obtain ⟨h, h5⟩ := add_lt a4 n5 h
  obtain ⟨h, h4⟩ := add_lt a3 n4 h
  obtain ⟨h, h3⟩ := add_lt a2 n3 h
  obtain ⟨h, h2⟩ := add_lt a1 n2 h
  obtain ⟨h0, h1⟩ := add_lt n0 n1 h
  have hc := real_of_sum (fun k : Fin 2 => (cn (ix1 k) : EReal)) h5
  refine ⟨real_of_sum _ h1, real_of_sum _ h0, real_of_sum _ h4, real_of_mag _ h3, real_of_mag _ h2, ?_,
    real_of_sum _ h6 0, real_of_sum _ h6 1, real_of_sum _ h7 0, real_of_sum _ h7 1, hn⟩
  obtain ⟨u, hu⟩ := hc 0
  obtain ⟨w, hw⟩ := hc 1
  have hu' : (cn (ix1 0) : EReal) = u := hu
  have hw' : (cn (ix1 1) : EReal) = w := hw
  have h7168 : Ideal.ofBits .f32 0x45E00000#32 = ((7168 : ℝ) : EReal) := by
    simp [Ideal.ofBits, Ideal.ieee]
    rw [← EReal.coe_mul]
    norm_num
  rw [hu', hw', h7168]
  exact ⟨u + 7168 + w, by push_cast; rfl⟩

/-- On such a token the kernel's dx is the reference's, a real number. -/
theorem dx_agree (dy x ga : Fin 7168 → EReal) (r m n pg0 pg1 px0 px1 : EReal) (h : FiniteToken dy x ga r m n pg0 pg1 px0 px1) (j : Fin 56) (q : Fin 128) :
    LnBwd.kdx (fun a b => dy (LnBwd.feat a b)) (fun a b => x (LnBwd.feat a b)) (fun a b => ga (LnBwd.feat a b)) r m n pg0 pg1 px0 px1 j q
      = LnBwd.rdx dy x ga r m n pg0 pg1 px0 px1 (LnBwd.feat j q)
    ∧ ∃ z : ℝ, LnBwd.rdx dy x ga r m n pg0 pg1 px0 px1 (LnBwd.feat j q) = z := by
  obtain ⟨h1, h2, h3, ⟨r, rfl⟩, ⟨m, rfl⟩, ⟨n, rfl⟩, ⟨pg0, rfl⟩, ⟨pg1, rfl⟩, ⟨px0, rfl⟩, ⟨px1, rfl⟩, hn⟩ := h
  choose d hd using h1
  choose u hu using h2
  choose g hg using h3
  obtain rfl : dy = fun k => (d k : EReal) := funext hd
  obtain rfl : x = fun k => (u k : EReal) := funext hu
  obtain rfl : ga = fun k => (g k : EReal) := funext hg
  have hn' : n ≠ 0 := fun h => hn (by rw [h]; rfl)
  refine ⟨LnBwd.dx_eq d u g r m n pg0 pg1 px0 px1 hn' j q, ?_⟩
  unfold LnBwd.rdx
  rw [Ideal.div_coe hn', Ideal.div_coe hn']
  simp only [← EReal.coe_mul, ← EReal.coe_sub, ← EReal.coe_add, ← LnBwd.coe_sum]
  exact ⟨_, rfl⟩

end Cert.On_finite_tokens

end
-- ==== Proof.Kern.Blocks.lean ====
/- The two windows of a grid point, element by element. -/
module

public import proofs.«01_k».proof.Proof.Kern.Dx
public import proofs.«01_k».proof.Proof.Kern.Scale

@[expose] public section

noncomputable section

namespace LnBwd

open Idealize.ShloMosaic

variable (W : Ins Ideal)

theorem codesTile (s : Fin 4) (j : Fin 56) (p : Fin 32) (q : Fin 128) :
    W.codes (ix2 (rowOf s p) (feat j q)) = codesOf (W.dxB s j) (ix2 p q) := by
  have h := congrFun (tRows.tile_emb (fun i : Fin 4 × Fin 56 => codesOf (F := Ideal) (W.dxB i.1 i.2)) (s, j)) (ix2 p q)
  rw [← h]
  refine congrArg W.codes (funext fun a => Fin.ext ?_)
  fin_cases a <;> (rw [Rect.emb_apply]; simp [ix2, tRows, grid2, rowOf, feat])

theorem scalesTile (s : Fin 4) (j : Fin 56) (p : Fin 32) :
    W.scales (ix3 0 j (rowOf s p)) = scalesOf (W.dxB s j) (ix2 p 0) := by
  let f := W.scBlocks fun _ _ => (Scalar.ofBits .f32 0x00000000#32 : Ideal .f32)
  have h := congrFun (tSc.tile_emb f (s, j.castLE (by decide))) (ix2 p 0)
  have e : f (s, j.castLE (by decide)) = scalesOf (W.dxB s j) := dif_pos j.isLt
  rw [← e, ← h]
  show scaleRows (F := Ideal) (tSc.tile f) (ix3 0 j (rowOf s p)) = _
  generalize tSc.tile f = u
  pointwise [scaleRows]
  refine congrArg u (funext fun a => Fin.ext ?_)
  fin_cases a <;> (rw [Rect.emb_apply]; simp [ix2, tSc, grid2, rowOf])

end LnBwd

end
-- ==== Proof.Kern.CodesKernelIdeal.lean ====
/- What the kernel leaves in its codes' and its scales' arrays, read off its arguments, over the extended reals. -/
module

public import proofs.«01_k».proof.Proof.Kern.ValueKernelIdeal
public import proofs.«01_k».proof.Proof.Kern.Dx
public import proofs.«01_k».proof.Proof.Kern.Scale

@[expose] public section

noncomputable section

abbrev LnBwd.Sx : Idealize.ShloMosaic.Shape := ⟨2, ![1536, 7168]⟩
abbrev LnBwd.Ss : Idealize.ShloMosaic.Shape := ⟨3, ![6, 56, 256]⟩

namespace Cert.KernelIdeal.Gen

open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

theorem index_0 (t : Fin cfg0.N) : win0_0.index t = ![0] := by
  rcases fin_N0 t with h | h | h | h | h | h | h | h | h | h | h | h <;> subst h <;> decide
theorem index_5 (t : Fin cfg0.N) : win0_5.index t = ![t.val / 2, 0, t.val % 2] := by
  rcases fin_N0 t with h | h | h | h | h | h | h | h | h | h | h | h <;> subst h <;> decide
theorem index_6 (t : Fin cfg0.N) : win0_6.index t = ![t.val / 2, 0, t.val % 2] := by
  rcases fin_N0 t with h | h | h | h | h | h | h | h | h | h | h | h <;> subst h <;> decide
theorem index_7 (t : Fin cfg0.N) : win0_7.index t = ![0, 0] := by
  rcases fin_N0 t with h | h | h | h | h | h | h | h | h | h | h | h <;> subst h <;> decide
theorem index_8 (t : Fin cfg0.N) : win0_8.index t = ![t.val, 0] := by
  rcases fin_N0 t with h | h | h | h | h | h | h | h | h | h | h | h <;> subst h <;> decide
theorem index_9 (t : Fin cfg0.N) : win0_9.index t = ![t.val / 2, 0, t.val % 2] := by
  rcases fin_N0 t with h | h | h | h | h | h | h | h | h | h | h | h <;> subst h <;> decide

theorem cnt_apply (t : Fin cfg0.N) (k : Fin 2) : (ins m c t).cnt (ix1 k) = m ((c.tc : Thread nD τ).loc main_arg5) (ix1 k) := by
  show iblk m c 0 t (ix1 k) = _
  blk_simp [iblk, index_0 t]
  entry_read
  pointwise
  blk_ext [index_0 t]
theorem pg_apply (t : Fin cfg0.N) (k : Fin 2) (i : Fin 128) :
    (ins m c t).pg (ix3 0 k i) = m ((c.tc : Thread nD τ).loc main_arg6)
      (ix3 k ⟨(128 * t.val + i.val) / 256, by have := lt_12 t; omega⟩ ⟨(128 * t.val + i.val) % 256, by omega⟩) := by
  have := lt_12 t
  show iblk m c 5 t (ix3 0 k i) = _
  blk_simp [iblk, index_5 t]
  entry_read
  pointwise
  blk_ext [index_5 t]
theorem pgx_apply (t : Fin cfg0.N) (k : Fin 2) (i : Fin 128) :
    (ins m c t).pgx (ix3 0 k i) = m ((c.tc : Thread nD τ).loc main_arg7)
      (ix3 k ⟨(128 * t.val + i.val) / 256, by have := lt_12 t; omega⟩ ⟨(128 * t.val + i.val) % 256, by omega⟩) := by
  have := lt_12 t
  show iblk m c 6 t (ix3 0 k i) = _
  blk_simp [iblk, index_6 t]
  entry_read
  pointwise
  blk_ext [index_6 t]
theorem gamma_apply (t : Fin cfg0.N) (j : Fin 56) (q : Fin 128) :
    (ins m c t).gamma (ix2 j q) = m ((c.tc : Thread nD τ).loc main_arg4) (ix1 (LnBwd.feat j q)) := by
  show iblk m c 7 t (ix2 j q) = _
  blk_simp [iblk, index_7 t]
  entry_read
  pointwise
  blk_ext [index_7 t]
  show _ = 128 * j.val + q.val
  omega

/-- The number of features of all ranks. -/
abbrev total (a b : EReal) : EReal := a + Ideal.ofBits .f32 0x45E00000#32 + b

theorem n_apply (t : Fin cfg0.N) : (ins m c t).n =
    total (m ((c.tc : Thread nD τ).loc main_arg5) (ix1 0)) (m ((c.tc : Thread nD τ).loc main_arg5) (ix1 1)) := by
  rw [← cnt_apply m c t, ← cnt_apply m c t]
  show ((ins m c t).cntAt 0 + _ + (ins m c t).cntAt 1 : EReal) = _
  have e : ∀ k : Fin 2, (LnBwd.rCnt k).emb (Shape.Idx.first (by decide : 0 < LnBwd.S1.numel)) = ix1 k := fun k => by
    funext a
    fin_cases a
    exact Fin.ext (by rw [Rect.emb_apply]; simp [ix1])
  unfold LnBwd.Ins.cntAt
  rw [e, e]
  rfl

/-- The grid point of row `n`. -/
def pointOf (n : ℕ) (h : n < 1536) : Fin cfg0.N := ⟨n / 128, lt_of_lt_of_eq (by omega : n / 128 < 12) N_0.symm⟩

theorem pointOf_eq (t : Fin cfg0.N) (i : ℕ) (hi : i < 128) (h : 128 * t.val + i < 1536) : pointOf (128 * t.val + i) h = t :=
  Fin.ext (by show (128 * t.val + i) / 128 = t.val; omega)

def codesArr (y : LnBwd.Sx.Idx) : EReal :=
  (ins m c (pointOf (y 0).val (y 0).isLt)).codes (ix2 ⟨(y 0).val % 128, Nat.mod_lt _ (by decide)⟩ (y 1))

theorem final_8 : (dats m 0 c).arrAt 8 cfg0.N = codesArr m c := by
  refine (dats m 0 c).arrAt_eq_of_covers 8 _ (by decide +kernel) fun t hf y => ?_
  obtain ⟨p, q, rfl⟩ : ∃ (p : Fin 128) (q : Fin 7168), y = ix2 p q := ⟨y 0, y 1, eq_ix2 y⟩
  have ht := lt_12 t
  blk_simp
  have e : (win0_8.blk t).view.emb (ix2 p q) = (ix2 (⟨128 * t.val + p.val, by omega⟩ : Fin 1536) q : LnBwd.Sx.Idx) := by
    blk_ext [index_8 t]
  rw [e]
  show (ins m c t).codes (ix2 p q) = (ins m c (pointOf (128 * t.val + p.val) _)).codes (ix2 ⟨(128 * t.val + p.val) % 128, _⟩ q)
  have hp : pointOf (128 * t.val + p.val) (by omega) = t := pointOf_eq t p.val p.isLt (by omega)
  rw [hp]
  refine congrArg (fun z => (ins m c t).codes (ix2 z q)) (Fin.ext ?_)
  show p.val = (128 * t.val + p.val) % 128
  omega

/-- Row `256 b + s`, of position `s` in batch `b`. -/
def scalesArr (y : LnBwd.Ss.Idx) : EReal :=
  (ins m c (pointOf (256 * (y 0).val + (y 2).val) (by have h0 : (y 0).val < 6 := (y 0).isLt; have h2 : (y 2).val < 256 := (y 2).isLt; omega))).scales
    (ix3 0 (y 1) ⟨(y 2).val % 128, Nat.mod_lt _ (by decide)⟩)

theorem final_9 : (dats m 0 c).arrAt 9 cfg0.N = scalesArr m c := by
  refine (dats m 0 c).arrAt_eq_of_covers 9 _ (by decide +kernel) fun t hf y => ?_
  obtain ⟨z, j, p, rfl⟩ : ∃ (z : Fin 1) (j : Fin 56) (p : Fin 128), y = ix3 z j p := ⟨y 0, y 1, y 2, eq_ix3 y⟩
  obtain rfl : z = 0 := Subsingleton.elim _ _
  have ht := lt_12 t
  blk_simp
  have e : (win0_9.blk t).view.emb (ix3 0 j p) = (ix3 (⟨t.val / 2, by omega⟩ : Fin 6) j (⟨128 * (t.val % 2) + p.val, by omega⟩ : Fin 256) : LnBwd.Ss.Idx) := by
    blk_ext [index_9 t]
  rw [e]
  show (ins m c t).scales (ix3 0 j p) = (ins m c (pointOf (256 * (t.val / 2) + (128 * (t.val % 2) + p.val)) _)).scales (ix3 0 j ⟨(128 * (t.val % 2) + p.val) % 128, _⟩)
  have hp : pointOf (256 * (t.val / 2) + (128 * (t.val % 2) + p.val)) (by omega) = t :=
    Fin.ext (by show (256 * (t.val / 2) + (128 * (t.val % 2) + p.val)) / 128 = t.val; omega)
  rw [hp]
  refine congrArg (fun z => (ins m c t).scales (ix3 0 j z)) (Fin.ext ?_)
  show p.val = (128 * (t.val % 2) + p.val) % 128
  omega

end Cert.KernelIdeal.Gen

end
-- ==== Proof.Kern.RefApply.lean ====
/- The reference's terms, element by element. -/
module

public import proofs.«01_k».proof.Proof.Kern.RefTerms
public import proofs.«01_k».proof.Proof.Kern.Dx
public import proofs.«01_k».proof.Proof.Kern.Scale

@[expose] public section

noncomputable section

namespace Cert.ReferenceIdeal

open Idealize.ShloMosaic Idealize.ShloMosaic.TcCoe Idealize.SL.Sem
open Facts₀ Facts
open LnBwd (pw cnt scField ratioOf feat rdx)
open scoped BigOperators

variable [Facts]

/-- Row `n`'s batch and position. -/
abbrev bat (n : Fin 1536) : Fin 6 := ⟨n.val / 256, by omega⟩
abbrev pos (n : Fin 1536) : Fin 256 := ⟨n.val % 256, by omega⟩

theorem rows_apply (v : FVec Ideal S6x256x7168 .bf16) (n : Fin 1536) (e : Fin 7168) : rows v (ix2 n e) = v (ix3 (bat n) (pos n) e) := by
  pointwise [rows]
theorem along_apply (v : FVec Ideal S1536 .f32) (n : Fin 1536) (e : Fin 7168) : along v (ix2 n e) = v (ix1 n) := by
  pointwise [along]
theorem flat_apply (v : FVec Ideal S6x256 .f32) (n : Fin 1536) : flat v (ix1 n) = v (ix2 (bat n) (pos n)) := by
  pointwise [flat]
theorem scaled_apply (dy : FVec Ideal S6x256x7168 .bf16) (ga : FVec Ideal S7168 .f32) (n : Fin 1536) (e : Fin 7168) :
    scaled dy ga (ix2 n e) = (dy (ix3 (bat n) (pos n) e) * ga (ix1 e) : EReal) := by
  rw [← rows_apply dy n e]
  unfold scaled
  generalize rows dy = u
  pointwise
theorem rowSums_apply (v : FVec Ideal S1536x7168 .f32) (n : Fin 1536) : rowSums v (ix1 n) = (∑ k : Fin 7168, v (ix2 n k) : EReal) := by
  pointwise [rowSums]
theorem peer0_apply (v : FVec Ideal S2x6x256 .f32) (n : Fin 1536) : peer0 v (ix1 n) = v (ix3 0 (bat n) (pos n)) := by
  pointwise [peer0]
theorem peer1_apply (v : FVec Ideal S2x6x256 .f32) (n : Fin 1536) : peer1 v (ix1 n) = v (ix3 1 (bat n) (pos n)) := by
  pointwise [peer1]
theorem total_apply (v : FVec Ideal S2 .f32) (i : S_.Idx) : total v i = (v (ix1 0) + Ideal.ofBits .f32 0x45E00000#32 + v (ix1 1) : EReal) := by
  pointwise [total]
theorem blocked_apply (v : FVec Ideal S1536x7168 .f32) (n : Fin 1536) (j : Fin 56) (q : Fin 128) : blocked v (ix3 n j q) = v (ix2 n (feat j q)) := by
  pointwise [blocked]
  exact congrArg (fun z => v (ix2 n z)) (Fin.ext (by show j.val * 128 + q.val = 128 * j.val + q.val; omega))
theorem largest_apply (u : FVec Ideal S1536x56x128 .f32) (n : Fin 1536) (j : Fin 56) :
    (Host.reduce FloatOps.maximumf u (constant S_ .f32 0xFF800000#32) reducesTo_S1536x56x128_S1536x56_d2 h_S_) (ix2 n j)
      = (Finset.fold max (Ideal.ofBits .f32 0xFF800000#32) (fun k => u (ix3 n j k)) Finset.univ : EReal) := by
  pointwise
theorem over_apply (w : FVec Ideal S1536x56 .f32) (n : Fin 1536) (j : Fin 56) :
    mulf w (broadcastInDim S1536x56 ![] bcast_S_S1536x56 (constant S_ .f32 0x37924925#32)) (ix2 n j)
      = (w (ix2 n j) * Ideal.ofBits .f32 0x37924925#32 : EReal) := by
  pointwise
theorem ratio_apply (v : FVec Ideal S1536x56x128 .f32) (n : Fin 1536) (j : Fin 56) : ratio v (ix2 n j) = ratioOf fun k => v (ix3 n j k) := by
  have h : ∀ k, Host.absf v (ix3 n j k) = (max (v (ix3 n j k)) (-(v (ix3 n j k))) : EReal) := fun _ => rfl
  unfold ratio
  rw [over_apply, largest_apply]
  unfold ratioOf
  simp only [h]
theorem int_bits : ∀ k : Fin 239, (IntOp.addi (4294967171#32) (BitVec.ofNat 32 k.val)).toInt = (k.val : ℤ) - 125 := by
  decide +kernel
theorem powers_apply (k : Fin 239) : powers (ix1 k) = pw (k.val + 2) := by
  pointwise [powers]
  have h2 : Ideal.ofBits .f32 0x40000000#32 = ((2 : ℝ) : EReal) := by
    rw [show (0x40000000#32 : BitVec 32) = BitVec.ofNat 32 128 <<< 23 by decide, LnBwd.ofBits_field 128 (by decide) (by decide), pw]
    norm_num
  have h3 : (FloatOps.sitofp (F := Ideal) .f32 (IntOp.addi (4294967171#32) (BitVec.ofNat 32 k.val)) : EReal) = (((k.val : ℤ) - 125 : ℤ) : ℝ) := by
    show (((IntOp.addi (4294967171#32) (BitVec.ofNat 32 k.val)).toInt : ℝ) : EReal) = _
    rw [int_bits k]
  rw [h2, h3, Ideal.pow_coe_coe, pw]
  refine congrArg _ ?_
  show (2 : ℝ) ^ ((((k.val : ℤ) - 125 : ℤ) : ℝ)) = _
  rw [Real.rpow_intCast]
  congr 1
  push_cast
  ring
theorem aboveOf_apply (t : FVec Ideal S1536x56 .f32) (n : Fin 1536) (j : Fin 56) (k : Fin 239) :
    aboveOf t (ix3 n j k) = if t (ix2 n j) < pw (k.val + 2) then pw (k.val + 2) else pw 240 := by
  rw [← powers_apply]
  unfold aboveOf
  generalize powers = u
  pointwise
  rw [show (2013265920#32 : BitVec 32) = BitVec.ofNat 32 240 <<< 23 by decide, LnBwd.ofBits_field 240 (by decide) (by decide)]
theorem scaleOf_apply (t : FVec Ideal S1536x56 .f32) (n : Fin 1536) (j : Fin 56) : scaleOf t (ix2 n j) = pw (scField (cnt (t (ix2 n j)))) := by
  unfold scaleOf
  have h := aboveOf_apply t n j
  generalize aboveOf t = u at h ⊢
  pointwise
  rw [show (8388608#32 : BitVec 32) = BitVec.ofNat 32 1 <<< 23 by decide, LnBwd.ofBits_field 1 (by decide) (by decide), LnBwd.ofBits_top]
  simp only [h]
  exact LnBwd.min_scale _
theorem quotient_apply (v : FVec Ideal S1536x56x128 .f32) (s : FVec Ideal S1536x56 .f32) (n : Fin 1536) (j : Fin 56) (q : Fin 128) :
    quotient v s (ix2 n (feat j q)) = (v (ix3 n j q) * Ideal.div 1 (s (ix2 n j)) : EReal) := by
  pointwise [quotient]
  have h1 : (⟨(feat j q).val / 128, by have := (feat j q).isLt; omega⟩ : Fin 56) = j :=
    Fin.ext (by show (128 * j.val + q.val) / 128 = j.val; omega)
  have h2 : (⟨(feat j q).val % 128, Nat.mod_lt _ (by decide)⟩ : Fin 128) = q :=
    Fin.ext (by show (128 * j.val + q.val) % 128 = q.val; omega)
  rw [h1, h2]
theorem scaleArray_apply (s : FVec Ideal S1536x56 .f32) (b : Fin 6) (j : Fin 56) (p : Fin 256) :
    scaleArray s (ix3 b j p) = s (ix2 ⟨256 * b.val + p.val, by omega⟩ j) := by
  pointwise [scaleArray]
  exact congrArg (fun z => s (ix2 z j)) (Fin.ext (by show b.val * 256 + p.val = 256 * b.val + p.val; omega))

variable (x dy : FVec Ideal S6x256x7168 .bf16) (mean rstd : FVec Ideal S6x256 .f32) (gamma : FVec Ideal S7168 .f32)
  (cn : FVec Ideal S2 .f32) (pg pgx : FVec Ideal S2x6x256 .f32)

theorem xhat_apply (n : Fin 1536) (e : Fin 7168) :
    xhat x mean rstd (ix2 n e) = ((x (ix3 (bat n) (pos n) e) - mean (ix2 (bat n) (pos n))) * rstd (ix2 (bat n) (pos n)) : EReal) := by
  rw [← rows_apply x, ← flat_apply mean, ← flat_apply rstd, ← along_apply (flat mean) n e, ← along_apply (flat rstd) n e]
  rfl
theorem meanOf_apply (own : FVec Ideal S1536 .f32) (p : FVec Ideal S2x6x256 .f32) (n : Fin 1536) :
    meanOf own p cn (ix1 n) = Ideal.div (p (ix3 0 (bat n) (pos n)) + own (ix1 n) + p (ix3 1 (bat n) (pos n)) : EReal)
      (cn (ix1 0) + Ideal.ofBits .f32 0x45E00000#32 + cn (ix1 1)) := by
  rw [← peer0_apply p n, ← peer1_apply p n, ← total_apply cn ix0]
  unfold meanOf
  generalize peer0 p = u
  generalize peer1 p = u'
  generalize total cn = u''
  pointwise

/-- dx of row `n`. -/
theorem refDx_apply (n : Fin 1536) (e : Fin 7168) :
    refDx x dy mean rstd gamma cn pg pgx (ix2 n e)
      = rdx (fun k => dy (ix3 (bat n) (pos n) k)) (fun k => x (ix3 (bat n) (pos n) k)) (fun k => gamma (ix1 k))
        (rstd (ix2 (bat n) (pos n))) (mean (ix2 (bat n) (pos n))) (cn (ix1 0) + Ideal.ofBits .f32 0x45E00000#32 + cn (ix1 1) : EReal)
        (pg (ix3 0 (bat n) (pos n))) (pg (ix3 1 (bat n) (pos n))) (pgx (ix3 0 (bat n) (pos n))) (pgx (ix3 1 (bat n) (pos n))) e := by
  have h : refDx x dy mean rstd gamma cn pg pgx (ix2 n e)
      = (along (flat rstd) (ix2 n e) * ((scaled dy gamma (ix2 n e) - along (meanOf (rowSums (scaled dy gamma)) pg cn) (ix2 n e))
        - xhat x mean rstd (ix2 n e) * along (meanOf (rowSums (mulf (scaled dy gamma) (xhat x mean rstd))) pgx cn) (ix2 n e)) : EReal) := rfl
  have h2 : ∀ k, mulf (scaled dy gamma) (xhat x mean rstd) (ix2 n k) = (scaled dy gamma (ix2 n k) * xhat x mean rstd (ix2 n k) : EReal) := fun _ => rfl
  rw [h]
  simp only [along_apply, flat_apply, meanOf_apply, rowSums_apply, h2, scaled_apply, xhat_apply]
  rfl

/-- The ratio of block `j` of row `n`. -/
abbrev refRatio (n : Fin 1536) (j : Fin 56) : EReal := ratioOf fun k => refDx x dy mean rstd gamma cn pg pgx (ix2 n (feat j k))

theorem refScale_apply (n : Fin 1536) (j : Fin 56) :
    refScale x dy mean rstd gamma cn pg pgx (ix2 n j) = pw (scField (cnt (refRatio x dy mean rstd gamma cn pg pgx n j))) := by
  unfold refScale
  rw [scaleOf_apply, ratio_apply]
  simp only [blocked_apply]

theorem refScales_apply (b : Fin 6) (j : Fin 56) (p : Fin 256) :
    refScales x dy mean rstd gamma cn pg pgx (ix3 b j p)
      = pw (scField (cnt (refRatio x dy mean rstd gamma cn pg pgx ⟨256 * b.val + p.val, by omega⟩ j))) := by
  unfold refScales
  rw [scaleArray_apply, refScale_apply]

theorem refQuot_apply (n : Fin 1536) (j : Fin 56) (q : Fin 128) :
    refQuot x dy mean rstd gamma cn pg pgx (ix2 n (feat j q))
      = (refDx x dy mean rstd gamma cn pg pgx (ix2 n (feat j q)) * pw (254 - scField (cnt (refRatio x dy mean rstd gamma cn pg pgx n j))) : EReal) := by
  unfold refQuot
  rw [quotient_apply, refScale_apply, LnBwd.one_div_pw, blocked_apply]
  have := LnBwd.cnt_le (refRatio x dy mean rstd gamma cn pg pgx n j)
  unfold scField
  split <;> omega

end Cert.ReferenceIdeal

end
-- ==== Proof.Kern.Agree.lean ====
/- Where the mask holds, the kernel's codes and scales are the reference's. -/
module

public import proofs.«01_k».proof.Proof.Kern.Blocks
public import proofs.«01_k».proof.Proof.Kern.CodesKernelIdeal
public import proofs.«01_k».proof.Proof.Kern.RefApply
public import proofs.«01_k».proof.Proof.Kern.RefCodes
public import proofs.«01_k».proof.Proof.Kern.Mask

@[expose] public section

noncomputable section

namespace LnBwd

open Idealize.ShloMosaic

theorem third_real : ∃ z : ℝ, 0 < z ∧ Ideal.ofBits .f32 0x37924925#32 = z := by
  refine ⟨9586981 * (1 / 549755813888), by norm_num, ?_⟩
  rw [EReal.coe_mul]
  simp [Ideal.ofBits, Ideal.ieee]
  norm_num

theorem ratioOf_ne_top (f : Fin 128 → EReal) (h : ∀ k, ∃ z : ℝ, f k = z) : ratioOf f ≠ ⊤ := by
  obtain ⟨z, hz, e⟩ := third_real
  have hb : Ideal.ofBits .f32 0xFF800000#32 < ⊤ := by simp [Ideal.ofBits, Ideal.ieee]
  have hF : Finset.fold max (Ideal.ofBits .f32 0xFF800000#32) (fun x => max (f x) (-(f x))) Finset.univ < (⊤ : EReal) := by
    rw [Finset.fold_max_lt]
    refine ⟨hb, fun x _ => ?_⟩
    obtain ⟨w, hw⟩ := h x
    rw [hw, ← EReal.coe_neg]
    exact max_lt (EReal.coe_lt_top _) (EReal.coe_lt_top _)
  unfold ratioOf
  rw [e]
  generalize Finset.fold max (Ideal.ofBits .f32 0xFF800000#32) (fun x => max (f x) (-(f x))) Finset.univ = F at hF ⊢
  induction F using EReal.rec with
  | bot => rw [EReal.bot_mul_coe_of_pos hz]; decide
  | top => exact absurd hF (lt_irrefl _)
  | coe u => rw [← EReal.coe_mul]; exact EReal.coe_ne_top _

end LnBwd

namespace Cert.ReferenceIdeal

open Idealize.ShloMosaic Idealize.ShloMosaic.TcCoe Idealize.SL.Sem
open Cert.KernelIdeal.Gen (ins lt_12 x_apply dy_apply mean_apply rstd_apply pg_apply pgx_apply gamma_apply n_apply codesArr scalesArr pointOf pointOf_eq)
open LnBwd (pw cnt scField ratioOf feat rowOf codeOf codesOf scalesOf)

attribute [local instance] Cert.ReferenceIdeal.Gen.facts Cert.On_finite_tokens.facts

variable (m : (ℓ : Loc Cert.KernelIdeal.nD Cert.KernelIdeal.τ Cert.KernelIdeal.sig) → Buf (Elt Ideal) ℓ) (c : Dev Cert.KernelIdeal.nD)

/-- The arguments. -/
abbrev aX : FVec Ideal S6x256x7168 .bf16 := m ((c.tc : Thread Cert.KernelIdeal.nD Cert.KernelIdeal.τ).loc Cert.KernelIdeal.main_arg0)
abbrev aDy : FVec Ideal S6x256x7168 .bf16 := m ((c.tc : Thread Cert.KernelIdeal.nD Cert.KernelIdeal.τ).loc Cert.KernelIdeal.main_arg1)
abbrev aMean : FVec Ideal S6x256 .f32 := m ((c.tc : Thread Cert.KernelIdeal.nD Cert.KernelIdeal.τ).loc Cert.KernelIdeal.main_arg2)
abbrev aRstd : FVec Ideal S6x256 .f32 := m ((c.tc : Thread Cert.KernelIdeal.nD Cert.KernelIdeal.τ).loc Cert.KernelIdeal.main_arg3)
abbrev aGamma : FVec Ideal S7168 .f32 := m ((c.tc : Thread Cert.KernelIdeal.nD Cert.KernelIdeal.τ).loc Cert.KernelIdeal.main_arg4)
abbrev aCnt : FVec Ideal S2 .f32 := m ((c.tc : Thread Cert.KernelIdeal.nD Cert.KernelIdeal.τ).loc Cert.KernelIdeal.main_arg5)
abbrev aPg : FVec Ideal S2x6x256 .f32 := m ((c.tc : Thread Cert.KernelIdeal.nD Cert.KernelIdeal.τ).loc Cert.KernelIdeal.main_arg6)
abbrev aPgx : FVec Ideal S2x6x256 .f32 := m ((c.tc : Thread Cert.KernelIdeal.nD Cert.KernelIdeal.τ).loc Cert.KernelIdeal.main_arg7)

abbrev okAt (b : Fin 6) (p : Fin 256) : Prop :=
  Cert.On_finite_tokens.ok (aX m c) (aDy m c) (aMean m c) (aRstd m c) (aGamma m c) (aCnt m c) (aPg m c) (aPgx m c) (ix2 b p) = 1#1
abbrev dxAt (n : Fin 1536) (e : Fin 7168) : EReal :=
  refDx (aX m c) (aDy m c) (aMean m c) (aRstd m c) (aGamma m c) (aCnt m c) (aPg m c) (aPgx m c) (ix2 n e)
abbrev ratioAt (n : Fin 1536) (j : Fin 56) : EReal := ratioOf fun k => dxAt m c n (feat j k)

/-- Row `i` of grid point `t`. -/
abbrev rowAt (t : Fin Cert.KernelIdeal.cfg0.N) (i : Fin 128) : Fin 1536 := ⟨128 * t.val + i.val, by have := lt_12 t; omega⟩

theorem kernel_dx (t : Fin Cert.KernelIdeal.cfg0.N) (s : Fin 4) (j : Fin 56) (p : Fin 32) (q : Fin 128)
    (h : okAt m c (bat (rowAt t (rowOf s p))) (pos (rowAt t (rowOf s p)))) :
    (ins m c t).dxB s j (ix2 p q) = dxAt m c (rowAt t (rowOf s p)) (feat j q) ∧ ∃ z : ℝ, dxAt m c (rowAt t (rowOf s p)) (feat j q) = z := by
  have hf := Cert.On_finite_tokens.finite_of_ok _ _ _ _ _ _ _ _ _ _ h
  have ha := Cert.On_finite_tokens.dx_agree _ _ _ _ _ _ _ _ _ _ hf j q
  have hr := refDx_apply (aX m c) (aDy m c) (aMean m c) (aRstd m c) (aGamma m c) (aCnt m c) (aPg m c) (aPgx m c) (rowAt t (rowOf s p)) (feat j q)
  refine ⟨?_, ?_⟩
  · refine Eq.trans ?_ (ha.1.trans hr.symm)
    rw [LnBwd.dxB_apply]
    simp only [x_apply, dy_apply, mean_apply, rstd_apply, pg_apply, pgx_apply, gamma_apply, n_apply]
  · exact ha.2.imp fun z hz => hr.trans hz

variable (t : Fin Cert.KernelIdeal.cfg0.N) (s : Fin 4) (j : Fin 56) (p : Fin 32)
  (h : okAt m c (bat (rowAt t (rowOf s p))) (pos (rowAt t (rowOf s p))))

include h in
theorem kernel_ratio : (ratioOf fun k => (ins m c t).dxB s j (ix2 p k)) = ratioAt m c (rowAt t (rowOf s p)) j
    ∧ (ratioOf fun k => (ins m c t).dxB s j (ix2 p k)) ≠ ⊤ := by
  have e : (fun k => (ins m c t).dxB s j (ix2 p k)) = fun k => dxAt m c (rowAt t (rowOf s p)) (feat j k) :=
    funext fun k => (kernel_dx m c t s j p k h).1
  rw [e]
  exact ⟨rfl, LnBwd.ratioOf_ne_top _ fun k => (kernel_dx m c t s j p k h).2⟩

include h in
theorem kernel_codes (q : Fin 128) : (ins m c t).codes (ix2 (rowOf s p) (feat j q))
    = codeOf (dxAt m c (rowAt t (rowOf s p)) (feat j q)) (scField (cnt (ratioAt m c (rowAt t (rowOf s p)) j))) := by
  have hr := kernel_ratio m c t s j p h
  rw [LnBwd.codesTile, LnBwd.codes_apply _ _ _ hr.2, hr.1, (kernel_dx m c t s j p q h).1]

include h in
theorem kernel_scales : (ins m c t).scales (ix3 0 j (rowOf s p)) = pw (scField (cnt (ratioAt m c (rowAt t (rowOf s p)) j))) := by
  have hr := kernel_ratio m c t s j p h
  rw [LnBwd.scalesTile, LnBwd.scales_apply _ _ _ hr.2, hr.1]

omit t s j p h

/-- Every row is a row of a group of a grid point. -/
theorem row_split (n : Fin 1536) : ∃ (t : Fin Cert.KernelIdeal.cfg0.N) (s : Fin 4) (p : Fin 32), n = rowAt t (rowOf s p) :=
  ⟨pointOf n.val n.isLt, ⟨n.val % 128 / 32, by omega⟩, ⟨n.val % 32, by omega⟩,
    Fin.ext (by show n.val = 128 * (n.val / 128) + (32 * (n.val % 128 / 32) + n.val % 32); omega)⟩
theorem feat_split (e : Fin 7168) : ∃ (j : Fin 56) (q : Fin 128), e = feat j q :=
  ⟨⟨e.val / 128, by omega⟩, ⟨e.val % 128, by omega⟩, Fin.ext (by show e.val = 128 * (e.val / 128) + e.val % 128; omega)⟩

theorem codes_eq (n : Fin 1536) (e : Fin 7168) (h : okAt m c (bat n) (pos n)) : codesArr m c (ix2 n e)
    = Gen.clamped (refQuot (aX m c) (aDy m c) (aMean m c) (aRstd m c) (aGamma m c) (aCnt m c) (aPg m c) (aPgx m c)) (ix2 n e) := by
  obtain ⟨t, s, p, rfl⟩ := row_split n
  obtain ⟨j, q, rfl⟩ := feat_split e
  have ht := lt_12 t
  have hi := (rowOf s p).isLt
  show (ins m c (pointOf (128 * t.val + (rowOf s p).val) _)).codes (ix2 ⟨(128 * t.val + (rowOf s p).val) % 128, _⟩ (feat j q)) = _
  have hp : pointOf (128 * t.val + (rowOf s p).val) (by omega) = t := pointOf_eq t _ hi (by omega)
  have hq : (⟨(128 * t.val + (rowOf s p).val) % 128, Nat.mod_lt _ (by decide)⟩ : Fin 128) = rowOf s p :=
    Fin.ext (by show (128 * t.val + (rowOf s p).val) % 128 = (rowOf s p).val; omega)
  rw [hp, hq, kernel_codes m c t s j p h q]
  unfold Gen.clamped
  rw [refQuot_apply]
  rfl

theorem scales_eq (b : Fin 6) (j : Fin 56) (p : Fin 256) (h : okAt m c b p) : scalesArr m c (ix3 b j p)
    = refScales (aX m c) (aDy m c) (aMean m c) (aRstd m c) (aGamma m c) (aCnt m c) (aPg m c) (aPgx m c) (ix3 b j p) := by
  rw [refScales_apply]
  obtain ⟨t, s, r, e⟩ := row_split ⟨256 * b.val + p.val, by omega⟩
  have ev : 256 * b.val + p.val = 128 * t.val + (rowOf s r).val := congrArg Fin.val e
  have ht := lt_12 t
  have hi := (rowOf s r).isLt
  show (ins m c (pointOf (256 * b.val + p.val) _)).scales (ix3 0 j ⟨p.val % 128, _⟩) = _
  have hp : pointOf (256 * b.val + p.val) (by omega) = t :=
    Fin.ext (by show (256 * b.val + p.val) / 128 = t.val; omega)
  have hq : (⟨p.val % 128, Nat.mod_lt _ (by decide)⟩ : Fin 128) = rowOf s r :=
    Fin.ext (by show p.val % 128 = (rowOf s r).val; omega)
  have hb : bat (rowAt t (rowOf s r)) = b := Fin.ext (by show (128 * t.val + (rowOf s r).val) / 256 = b.val; omega)
  have hs : pos (rowAt t (rowOf s r)) = p := Fin.ext (by show (128 * t.val + (rowOf s r).val) % 256 = p.val; omega)
  rw [hp, hq, kernel_scales m c t s j r (by rw [hb, hs]; exact h), e]

end Cert.ReferenceIdeal

end
-- ==== Proof.lean ====
/- The proof of the certificate: the kernel leaves its arguments alone and its semaphores at zero, as idealized too, and over the
   extended reals its four results are the reference's.

   Kern/Body.lean writes the kernel's body with loops in place of the printed straight line, Kern/SameKernel.lean and
   Kern/SameKernelIdeal.lean show that the printed bodies are that body, Kern/Rules.lean to Kern/Point.lean run it at a grid point,
   Kern/Dat*.lean run the whole grid, and Kern/Value*.lean read off the two sums.
   Kern/Dx.lean to Kern/CodesKernelIdeal.lean read off the codes and the scales, Kern/Ref*.lean the reference's, Kern/Mask.lean what
   the mask says of a token, and Kern/Agree.lean sets the two side by side. -/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Kern.DatKernel
public import proofs.«01_k».proof.Proof.Kern.DatKernelIdeal
public import proofs.«01_k».proof.Proof.Kern.SameKernel
public import proofs.«01_k».proof.Proof.Kern.SameKernelIdeal
public import proofs.«01_k».proof.Proof.Kern.ValueKernelIdeal
public import proofs.«01_k».proof.Proof.Kern.ValueReference
public import proofs.«01_k».proof.Proof.Kern.RefRead
public import proofs.«01_k».proof.Proof.Kern.RefCodes
public import proofs.«01_k».proof.Proof.Kern.Mask
public import proofs.«01_k».proof.Proof.Kern.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts Cert.On_finite_tokens.facts

open Cert.Kernel Cert.Kernel.Gen in
/-- `Kernel`'s run: the frame run's post, and every semaphore counter at zero. -/
theorem run_Kernel {F : FTy → Type} [FloatOps F] (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => Pipeline.FramePost cfgs (dats m) 0 (V m) r ∧ r.2.sem = fun _ => 0) :=
  Cert.Kernel.Gen.run_main m g fun t => Cert.Kernel.body_eq (grid0.coords t) _ _ _ _ _ _ _ _ _ _ _ _ _ _ _ _ _ _ _ _ _ _ _ _ _ _ _ _ _ _ _ _ _ _

open Cert.Kernel Cert.Kernel.Gen in
/-- `Kernel` leaves its arguments as they were and its semaphore counters at zero. -/
theorem frame_Kernel : Cert.quiescent_Kernel := fun m g _ =>
  (θ_run _ _ _).mono (fun _ h => ⟨h.1, h.2.2⟩)
    (θ_run_and (Cert.Kernel.Gen.frame_of m g (dats m) (fun _ _ => rfl) ((θ_run _ _ _).mono (fun _ h => h.1) (run_Kernel m g)))
      (run_Kernel m g))

open Cert.KernelIdeal Cert.KernelIdeal.Gen in
/-- `KernelIdeal`'s run: the frame run's post, and every semaphore counter at zero. -/
theorem run_KernelIdeal {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => Pipeline.FramePost cfgs (dats m) 0 (V m) r ∧ r.2.sem = fun _ => 0) :=
  Cert.KernelIdeal.Gen.run_main m g fun t => Cert.KernelIdeal.body_eq (grid0.coords t) _ _ _ _ _ _ _ _ _ _ _ _ _ _ _ _ _ _ _ _ _ _ _ _ _ _ _ _ _ _ _ _ _ _

open Cert.KernelIdeal Cert.KernelIdeal.Gen in
/-- `KernelIdeal` leaves its arguments as they were and its semaphore counters at zero. -/
theorem frame_KernelIdeal : Cert.quiescent_KernelIdeal := fun m g _ =>
  (θ_run _ _ _).mono (fun _ h => ⟨h.1, h.2.2⟩)
    (θ_run_and (Cert.KernelIdeal.Gen.frame_of m g (dats m) (fun _ _ => rfl) ((θ_run _ _ _).mono (fun _ h => h.1) (run_KernelIdeal m g)))
      (run_KernelIdeal m g))

open Cert.ReferenceIdeal Cert.ReferenceIdeal.Gen in
/-- The reference leaves its arguments as they were and its semaphore counters at zero. -/
theorem frame_ReferenceIdeal : Cert.quiescent_ReferenceIdeal := fun m g _ =>
  Cert.ReferenceIdeal.Gen.frame m g

theorem dgamma_term (x dy : FVec Ideal Cert.ReferenceIdeal.S6x256x7168 .bf16) (mean rstd : FVec Ideal Cert.ReferenceIdeal.S6x256 .f32) :
    Cert.ReferenceIdeal.dgammaTerm x dy mean rstd = Cert.ReferenceIdeal.refDgamma x dy mean rstd := rfl
theorem dbeta_term (dy : FVec Ideal Cert.ReferenceIdeal.S6x256x7168 .bf16) : Cert.ReferenceIdeal.dbetaTerm dy = Cert.ReferenceIdeal.refDbeta dy := rfl

section Reference

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ)

open Cert.ReferenceIdeal (aX aDy aMean aRstd aGamma aCnt aPg aPgx)

/-- The reference's arguments are the kernel's. -/
def Agrees : Prop :=
  m' ((c.tc : Thread Cert.ReferenceIdeal.nD Cert.ReferenceIdeal.τ).loc Cert.ReferenceIdeal.main_arg0) = aX m c
  ∧ m' ((c.tc : Thread Cert.ReferenceIdeal.nD Cert.ReferenceIdeal.τ).loc Cert.ReferenceIdeal.main_arg1) = aDy m c
  ∧ m' ((c.tc : Thread Cert.ReferenceIdeal.nD Cert.ReferenceIdeal.τ).loc Cert.ReferenceIdeal.main_arg2) = aMean m c
  ∧ m' ((c.tc : Thread Cert.ReferenceIdeal.nD Cert.ReferenceIdeal.τ).loc Cert.ReferenceIdeal.main_arg3) = aRstd m c
  ∧ m' ((c.tc : Thread Cert.ReferenceIdeal.nD Cert.ReferenceIdeal.τ).loc Cert.ReferenceIdeal.main_arg4) = aGamma m c
  ∧ m' ((c.tc : Thread Cert.ReferenceIdeal.nD Cert.ReferenceIdeal.τ).loc Cert.ReferenceIdeal.main_arg5) = aCnt m c
  ∧ m' ((c.tc : Thread Cert.ReferenceIdeal.nD Cert.ReferenceIdeal.τ).loc Cert.ReferenceIdeal.main_arg6) = aPg m c
  ∧ m' ((c.tc : Thread Cert.ReferenceIdeal.nD Cert.ReferenceIdeal.τ).loc Cert.ReferenceIdeal.main_arg7) = aPgx m c

variable (h : Agrees m c m')

abbrev mask := Cert.On_finite_tokens.fn (F := Ideal) (aX m c) (aDy m c) (aMean m c) (aRstd m c) (aGamma m c) (aCnt m c) (aPg m c) (aPgx m c)

include h in
theorem reference_codes (i : (⟨2, ![1536, 7168]⟩ : Shape).Idx) (hi : (mask m c).1 i = 1#1) :
    (Cert.ReferenceIdeal.Gen.dats m' 0 c).arrAt 1 Cert.ReferenceIdeal.cfg0.N i = Cert.KernelIdeal.Gen.codesArr m c i := by
  obtain ⟨n, e, rfl⟩ : ∃ (n : Fin 1536) (e : Fin 7168), i = ix2 n e := ⟨i 0, i 1, eq_ix2 i⟩
  rw [Cert.On_finite_tokens.codes_ok] at hi
  refine (congrFun (Cert.ReferenceIdeal.Gen.final_codes m' c) (ix2 n e)).trans ?_
  obtain ⟨h0, h1, h2, h3, h4, h5, h6, h7⟩ := h
  rw [Cert.ReferenceIdeal.Gen.V_quot, h0, h1, h2, h3, h4, h5, h6, h7]
  exact (Cert.ReferenceIdeal.codes_eq m c n e hi).symm

include h in
theorem reference_scales (i : (⟨3, ![6, 56, 256]⟩ : Shape).Idx) (hi : (mask m c).2.1 i = 1#1) :
    Cert.ReferenceIdeal.Gen.V m' c Cert.ReferenceIdeal.main_v80 i = Cert.KernelIdeal.Gen.scalesArr m c i := by
  obtain ⟨b, j, p, rfl⟩ : ∃ (b : Fin 6) (j : Fin 56) (p : Fin 256), i = ix3 b j p := ⟨i 0, i 1, i 2, eq_ix3 i⟩
  rw [Cert.On_finite_tokens.scales_ok] at hi
  obtain ⟨h0, h1, h2, h3, h4, h5, h6, h7⟩ := h
  rw [Cert.ReferenceIdeal.Gen.V_scales, h0, h1, h2, h3, h4, h5, h6, h7]
  exact (Cert.ReferenceIdeal.scales_eq m c b j p hi).symm

include h in
theorem reference_dgamma : Cert.ReferenceIdeal.Gen.V m' c Cert.ReferenceIdeal.main_v83 = LnBwd.colSums (Cert.KernelIdeal.Gen.gam m c 12) := by
  obtain ⟨h0, h1, h2, h3, -⟩ := h
  rw [Cert.ReferenceIdeal.Gen.V_dgamma, h0, h1, h2, h3, dgamma_term]
  exact Cert.ReferenceIdeal.dgamma_eq m c

include h in
theorem reference_dbeta : Cert.ReferenceIdeal.Gen.V m' c Cert.ReferenceIdeal.main_v85 = LnBwd.colSums (Cert.KernelIdeal.Gen.bet m c 12) := by
  obtain ⟨-, h1, -⟩ := h
  rw [Cert.ReferenceIdeal.Gen.V_dbeta, h1, dbeta_term]
  exact Cert.ReferenceIdeal.dbeta_eq m c

end Reference

open Cert.ReferenceIdeal Cert.ReferenceIdeal.Gen in
/-- The reference's run: its four results named, its arguments kept. -/
theorem run_ReferenceIdeal (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v86) = (dats m 0 c).arrAt 1 cfg0.N
      ∧ r.2.mem ((c.tc : Thread nD τ).loc main_v80) = V m c main_v80
      ∧ r.2.mem ((c.tc : Thread nD τ).loc main_v83) = V m c main_v83
      ∧ r.2.mem ((c.tc : Thread nD τ).loc main_v85) = V m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨Value.post1 m r h c,
      (h c).2 main_v80 (Pipeline.mem_restRefs_of main_v80 (by decide) (by decide)),
      (h c).2 main_v83 (Pipeline.mem_restRefs_of main_v83 (by decide) (by decide)),
      (h c).2 main_v85 (Pipeline.mem_restRefs_of main_v85 (by decide) (by decide)),
      Value.kept_main_arg0 m r h c, Value.kept_main_arg1 m r h c, Value.kept_main_arg2 m r h c, Value.kept_main_arg3 m r h c,
      Value.kept_main_arg4 m r h c, Value.kept_main_arg5 m r h c, Value.kept_main_arg6 m r h c, Value.kept_main_arg7 m r h c⟩)
    (Cert.ReferenceIdeal.Gen.run_main m g)

open Cert.KernelIdeal.Gen in
/-- The kernel's four results and the reference's, over the extended reals. -/
theorem algebraic : Cert.algebraic_KernelIdeal_ReferenceIdeal_on_finite_tokens := fun m g m' g' _ hagree =>
  ⟨fun c => codesArr m c, fun c => scalesArr m c, fun c => LnBwd.colSums (gam m c 12), fun c => LnBwd.colSums (bet m c 12),
    (θ_run _ _ _).mono (fun _ h c =>
        ⟨fun i _ => congrFun (((h.2.1 c).1 8).trans (final_8 m c)) i, fun i _ => congrFun (((h.2.1 c).1 9).trans (final_9 m c)) i,
          fun i _ => congrFun (((h.2.1 c).1 10).trans (final_10 m c)) i, fun i _ => congrFun (((h.2.1 c).1 11).trans (final_11 m c)) i, h.1 c⟩)
      (θ_run_and (frame_of m g (dats m) (fun _ _ => rfl) ((θ_run _ _ _).mono (fun _ h => h.1) (run_KernelIdeal m g))) (run_KernelIdeal m g)),
    (θ_run _ _ _).mono (fun _ h c =>
        ⟨fun i hi => (congrFun (h c).1 i).trans (reference_codes m c m' (hagree c) i hi),
          fun i hi => (congrFun (h c).2.1 i).trans (reference_scales m c m' (hagree c) i hi),
          fun i _ => congrFun ((h c).2.2.1.trans (reference_dgamma m c m' (hagree c))) i,
          fun i _ => congrFun ((h c).2.2.2.1.trans (reference_dbeta m c m' (hagree c))) i, (h c).2.2.2.2⟩)
      (run_ReferenceIdeal m' g')⟩

theorem claim : Cert.Claim := ⟨Cert.Kernel.Gen.facts, Cert.KernelIdeal.Gen.facts, Cert.ReferenceIdeal.Gen.facts, Cert.On_finite_tokens.facts,
  frame_Kernel, frame_KernelIdeal, frame_ReferenceIdeal, trivial, algebraic⟩

end Cert.Proof

end
